-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite [hPre_finite : Cert.Pre_finite.Facts] (m : (ℓ : Loc Cert.BandIdeal.nD Cert.BandIdeal.τ Cert.BandIdeal.sig) → Buf (Elt Ideal) ℓ) : Prop :=
  ∀ c : Dev Cert.BandIdeal.nD,
    (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))).1 = (fun _ => 1#1)
    ∧ (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))).2 = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite [hPre_finite : Cert.Pre_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))).1 = (fun _ => 1#1)
    ∧ (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))).2 = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_finite_bias [hPre_finite_bias : Cert.Pre_finite_bias.Facts] (m : (ℓ : Loc Cert.BiasIdeal.nD Cert.BiasIdeal.τ Cert.BiasIdeal.sig) → Buf (Elt Ideal) ℓ) : Prop :=
  ∀ c : Dev Cert.BiasIdeal.nD,
    (Cert.Pre_finite_bias.fn (F := Ideal) (m ((c.tc : Thread Cert.BiasIdeal.nD Cert.BiasIdeal.τ).loc Cert.BiasIdeal.main_arg0))) = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_finite_bias [hPre_finite_bias : Cert.Pre_finite_bias.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_finite_bias.fn (F := Ideal) (m ((c.tc : Thread Cert.BiasRefIdeal.nD Cert.BiasRefIdeal.τ).loc Cert.BiasRefIdeal.main_arg0))) = (fun _ => 1#1)

def Pre_SsmWeight (m : (ℓ : Loc Cert.SsmWeight.nD Cert.SsmWeight.τ Cert.SsmWeight.sig) → Buf (Elt Bits) ℓ) : Prop :=
  True

def Pre_SsmWeightIdeal (m : (ℓ : Loc Cert.SsmWeightIdeal.nD Cert.SsmWeightIdeal.τ Cert.SsmWeightIdeal.sig) → Buf (Elt Ideal) ℓ) : Prop :=
  True

def Pre_SsmWeightRefIdeal (m : (ℓ : Loc Cert.SsmWeightRefIdeal.nD Cert.SsmWeightRefIdeal.τ Cert.SsmWeightRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1)
      ∧ r.2.mem ((c.tc : Thread Cert.OutAb.nD Cert.OutAb.τ).loc Cert.OutAb.main_arg2) = m ((c.tc : Thread Cert.OutAb.nD Cert.OutAb.τ).loc Cert.OutAb.main_arg2)
      ∧ r.2.mem ((c.tc : Thread Cert.OutAb.nD Cert.OutAb.τ).loc Cert.OutAb.main_arg3) = m ((c.tc : Thread Cert.OutAb.nD Cert.OutAb.τ).loc Cert.OutAb.main_arg3)
      ∧ r.2.mem ((c.tc : Thread Cert.OutAb.nD Cert.OutAb.τ).loc Cert.OutAb.main_arg4) = m ((c.tc : Thread Cert.OutAb.nD Cert.OutAb.τ).loc Cert.OutAb.main_arg4))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
      ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
      ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
      ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1)
      ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2)
      ∧ r.2.mem ((c.tc : Thread Cert.OutAbRefIdeal.nD Cert.OutAbRefIdeal.τ).loc Cert.OutAbRefIdeal.main_arg3) = m ((c.tc : Thread Cert.OutAbRefIdeal.nD Cert.OutAbRefIdeal.τ).loc Cert.OutAbRefIdeal.main_arg3)
      ∧ r.2.mem ((c.tc : Thread Cert.OutAbRefIdeal.nD Cert.OutAbRefIdeal.τ).loc Cert.OutAbRefIdeal.main_arg4) = m ((c.tc : Thread Cert.OutAbRefIdeal.nD Cert.OutAbRefIdeal.τ).loc Cert.OutAbRefIdeal.main_arg4))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_finite [hBandIdeal : Cert.BandIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_BandRefIdeal_pre_finite [hBandRefIdeal : Cert.BandRefIdeal.Facts] [hPre_finite : Cert.Pre_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasIdeal_pre_finite_bias [hBiasIdeal : Cert.BiasIdeal.Facts] [hPre_finite_bias : Cert.Pre_finite_bias.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_finite_bias m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_BiasRefIdeal_pre_finite_bias [hBiasRefIdeal : Cert.BiasRefIdeal.Facts] [hPre_finite_bias : Cert.Pre_finite_bias.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_finite_bias m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_SsmWeight [hSsmWeight : Cert.SsmWeight.Facts] : Prop :=
  ∀ (m : (ℓ : Loc Cert.SsmWeight.nD Cert.SsmWeight.τ Cert.SsmWeight.sig) → Buf (Elt Bits) ℓ) (g : Dev Cert.SsmWeight.nD → PrngReg), Pre_SsmWeight m →
    θ_run (Cert.SsmWeight.defs (F := Bits)) (onTc (τ := Cert.SsmWeight.τ) (Cert.SsmWeight.main (F := Bits))) ⟨m, fun _ => 0, g⟩ (fun r => (∀ c : Dev Cert.SsmWeight.nD,
      r.2.mem ((c.tc : Thread Cert.SsmWeight.nD Cert.SsmWeight.τ).loc Cert.SsmWeight.main_arg0) = m ((c.tc : Thread Cert.SsmWeight.nD Cert.SsmWeight.τ).loc Cert.SsmWeight.main_arg0))
      ∧ r.2.sem = fun _ => 0)

def quiescent_SsmWeightIdeal [hSsmWeightIdeal : Cert.SsmWeightIdeal.Facts] : Prop :=
  ∀ (m : (ℓ : Loc Cert.SsmWeightIdeal.nD Cert.SsmWeightIdeal.τ Cert.SsmWeightIdeal.sig) → Buf (Elt Ideal) ℓ) (g : Dev Cert.SsmWeightIdeal.nD → PrngReg), Pre_SsmWeightIdeal m →
    θ_run (Cert.SsmWeightIdeal.defs (F := Ideal)) (onTc (τ := Cert.SsmWeightIdeal.τ) (Cert.SsmWeightIdeal.main (F := Ideal))) ⟨m, fun _ => 0, g⟩ (fun r => (∀ c : Dev Cert.SsmWeightIdeal.nD,
      r.2.mem ((c.tc : Thread Cert.SsmWeightIdeal.nD Cert.SsmWeightIdeal.τ).loc Cert.SsmWeightIdeal.main_arg0) = m ((c.tc : Thread Cert.SsmWeightIdeal.nD Cert.SsmWeightIdeal.τ).loc Cert.SsmWeightIdeal.main_arg0))
      ∧ r.2.sem = fun _ => 0)

def quiescent_SsmWeightRefIdeal [hSsmWeightRefIdeal : Cert.SsmWeightRefIdeal.Facts] : Prop :=
  ∀ (m : (ℓ : Loc Cert.SsmWeightRefIdeal.nD Cert.SsmWeightRefIdeal.τ Cert.SsmWeightRefIdeal.sig) → Buf (Elt Ideal) ℓ) (g : Dev Cert.SsmWeightRefIdeal.nD → PrngReg), Pre_SsmWeightRefIdeal m →
    θ_run (Cert.SsmWeightRefIdeal.defs (F := Ideal)) (onTc (τ := Cert.SsmWeightRefIdeal.τ) (Cert.SsmWeightRefIdeal.main (F := Ideal))) ⟨m, fun _ => 0, g⟩ (fun r => (∀ c : Dev Cert.SsmWeightRefIdeal.nD,
      r.2.mem ((c.tc : Thread Cert.SsmWeightRefIdeal.nD Cert.SsmWeightRefIdeal.τ).loc Cert.SsmWeightRefIdeal.main_arg0) = m ((c.tc : Thread Cert.SsmWeightRefIdeal.nD Cert.SsmWeightRefIdeal.τ).loc Cert.SsmWeightRefIdeal.main_arg0))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11)
      ∧ r.2.mem ((c.tc : Thread Cert.Rwkv.nD Cert.Rwkv.τ).loc Cert.Rwkv.main_arg12) = m ((c.tc : Thread Cert.Rwkv.nD Cert.Rwkv.τ).loc Cert.Rwkv.main_arg12)
      ∧ r.2.mem ((c.tc : Thread Cert.Rwkv.nD Cert.Rwkv.τ).loc Cert.Rwkv.main_arg13) = m ((c.tc : Thread Cert.Rwkv.nD Cert.Rwkv.τ).loc Cert.Rwkv.main_arg13))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
      ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
      ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v23) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v18) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)
      ∧ m' ((c.tc : Thread Cert.OutAbRefIdeal.nD Cert.OutAbRefIdeal.τ).loc Cert.OutAbRefIdeal.main_arg2) = m ((c.tc : Thread Cert.OutAbIdeal.nD Cert.OutAbIdeal.τ).loc Cert.OutAbIdeal.main_arg2)
      ∧ m' ((c.tc : Thread Cert.OutAbRefIdeal.nD Cert.OutAbRefIdeal.τ).loc Cert.OutAbRefIdeal.main_arg3) = m ((c.tc : Thread Cert.OutAbIdeal.nD Cert.OutAbIdeal.τ).loc Cert.OutAbIdeal.main_arg3)
      ∧ m' ((c.tc : Thread Cert.OutAbRefIdeal.nD Cert.OutAbRefIdeal.τ).loc Cert.OutAbRefIdeal.main_arg4) = m ((c.tc : Thread Cert.OutAbIdeal.nD Cert.OutAbIdeal.τ).loc Cert.OutAbIdeal.main_arg4)) →
    ∃ (v0 : (c : Dev Cert.OutAbIdeal.nD) → Buf (Elt Ideal) ((c.tc : Thread Cert.OutAbIdeal.nD Cert.OutAbIdeal.τ).loc Cert.OutAbIdeal.main_v5)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v5) = v0 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
          ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
          ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
          ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v19) = v0 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1)
          ∧ r.2.mem ((c.tc : Thread Cert.OutAbRefIdeal.nD Cert.OutAbRefIdeal.τ).loc Cert.OutAbRefIdeal.main_arg2) = m' ((c.tc : Thread Cert.OutAbRefIdeal.nD Cert.OutAbRefIdeal.τ).loc Cert.OutAbRefIdeal.main_arg2)
          ∧ r.2.mem ((c.tc : Thread Cert.OutAbRefIdeal.nD Cert.OutAbRefIdeal.τ).loc Cert.OutAbRefIdeal.main_arg3) = m' ((c.tc : Thread Cert.OutAbRefIdeal.nD Cert.OutAbRefIdeal.τ).loc Cert.OutAbRefIdeal.main_arg3)
          ∧ r.2.mem ((c.tc : Thread Cert.OutAbRefIdeal.nD Cert.OutAbRefIdeal.τ).loc Cert.OutAbRefIdeal.main_arg4) = m' ((c.tc : Thread Cert.OutAbRefIdeal.nD Cert.OutAbRefIdeal.τ).loc Cert.OutAbRefIdeal.main_arg4))

def preserves_Band_BandIdeal : Prop :=
  IdealRules.named_const.Statement Cert.BandIdeal.κ "mask" .f32 0xF149F2CA#32 ⊥

def algebraic_BandIdeal_BandRefIdeal_pre_finite [hBandIdeal : Cert.BandIdeal.Facts] [hBandRefIdeal : Cert.BandRefIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v0)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v0) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v67) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def preserves_Bias_BiasIdeal : Prop :=
  True

def algebraic_BiasIdeal_BiasRefIdeal_pre_finite_bias [hBiasIdeal : Cert.BiasIdeal.Facts] [hBiasRefIdeal : Cert.BiasRefIdeal.Facts] [hPre_finite_bias : Cert.Pre_finite_bias.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal_finite_bias m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v1)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v1) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v22) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def preserves_SsmWeight_SsmWeightIdeal : Prop :=
  True

def algebraic_SsmWeightIdeal_SsmWeightRefIdeal [hSsmWeightIdeal : Cert.SsmWeightIdeal.Facts] [hSsmWeightRefIdeal : Cert.SsmWeightRefIdeal.Facts] : Prop :=
  ∀ (m : (ℓ : Loc Cert.SsmWeightIdeal.nD Cert.SsmWeightIdeal.τ Cert.SsmWeightIdeal.sig) → Buf (Elt Ideal) ℓ) (g : Dev Cert.SsmWeightIdeal.nD → PrngReg)
    (m' : (ℓ : Loc Cert.SsmWeightRefIdeal.nD Cert.SsmWeightRefIdeal.τ Cert.SsmWeightRefIdeal.sig) → Buf (Elt Ideal) ℓ) (g' : Dev Cert.SsmWeightRefIdeal.nD → PrngReg), Pre_SsmWeightIdeal m →
    (∀ c : Dev Cert.SsmWeightIdeal.nD,
      m' ((c.tc : Thread Cert.SsmWeightRefIdeal.nD Cert.SsmWeightRefIdeal.τ).loc Cert.SsmWeightRefIdeal.main_arg0) = m ((c.tc : Thread Cert.SsmWeightIdeal.nD Cert.SsmWeightIdeal.τ).loc Cert.SsmWeightIdeal.main_arg0)) →
    ∃ (v0 : (c : Dev Cert.SsmWeightIdeal.nD) → Buf (Elt Ideal) ((c.tc : Thread Cert.SsmWeightIdeal.nD Cert.SsmWeightIdeal.τ).loc Cert.SsmWeightIdeal.main_v2)),
      θ_run (Cert.SsmWeightIdeal.defs (F := Ideal)) (onTc (τ := Cert.SsmWeightIdeal.τ) (Cert.SsmWeightIdeal.main (F := Ideal))) ⟨m, fun _ => 0, g⟩ (fun r => ∀ c : Dev Cert.SsmWeightIdeal.nD,
          r.2.mem ((c.tc : Thread Cert.SsmWeightIdeal.nD Cert.SsmWeightIdeal.τ).loc Cert.SsmWeightIdeal.main_v2) = v0 c
          ∧ r.2.mem ((c.tc : Thread Cert.SsmWeightIdeal.nD Cert.SsmWeightIdeal.τ).loc Cert.SsmWeightIdeal.main_arg0) = m ((c.tc : Thread Cert.SsmWeightIdeal.nD Cert.SsmWeightIdeal.τ).loc Cert.SsmWeightIdeal.main_arg0))
      ∧ θ_run (Cert.SsmWeightRefIdeal.defs (F := Ideal)) (onTc (τ := Cert.SsmWeightRefIdeal.τ) (Cert.SsmWeightRefIdeal.main (F := Ideal))) ⟨m', fun _ => 0, g'⟩ (fun r => ∀ c : Dev Cert.SsmWeightRefIdeal.nD,
          r.2.mem ((c.tc : Thread Cert.SsmWeightRefIdeal.nD Cert.SsmWeightRefIdeal.τ).loc Cert.SsmWeightRefIdeal.main_v3) = v0 c
          ∧ r.2.mem ((c.tc : Thread Cert.SsmWeightRefIdeal.nD Cert.SsmWeightRefIdeal.τ).loc Cert.SsmWeightRefIdeal.main_arg0) = m' ((c.tc : Thread Cert.SsmWeightRefIdeal.nD Cert.SsmWeightRefIdeal.τ).loc Cert.SsmWeightRefIdeal.main_arg0))

def preserves_Ssd_SsdIdeal : Prop :=
  True

def preserves_Rwkv_RwkvIdeal : Prop :=
  True

def Claim : Prop :=
  ∃ (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hOutAb : Cert.OutAb.Facts) (hOutAbIdeal : Cert.OutAbIdeal.Facts) (hOutAbRefIdeal : Cert.OutAbRefIdeal.Facts) (hBand : Cert.Band.Facts) (hBandIdeal : Cert.BandIdeal.Facts) (hBandRefIdeal : Cert.BandRefIdeal.Facts) (hBias : Cert.Bias.Facts) (hBiasIdeal : Cert.BiasIdeal.Facts) (hBiasRefIdeal : Cert.BiasRefIdeal.Facts) (hSsmWeight : Cert.SsmWeight.Facts) (hSsmWeightIdeal : Cert.SsmWeightIdeal.Facts) (hSsmWeightRefIdeal : Cert.SsmWeightRefIdeal.Facts) (hSsd : Cert.Ssd.Facts) (hSsdIdeal : Cert.SsdIdeal.Facts) (hRwkv : Cert.Rwkv.Facts) (hRwkvIdeal : Cert.RwkvIdeal.Facts) (hPre_finite : Cert.Pre_finite.Facts) (hPre_finite_bias : Cert.Pre_finite_bias.Facts),
    quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_Band (hBand := hBand)
    ∧ quiescent_BandIdeal (hBandIdeal := hBandIdeal)
    ∧ quiescent_BandIdeal_pre_finite (hBandIdeal := hBandIdeal) (hPre_finite := hPre_finite)
    ∧ quiescent_BandRefIdeal (hBandRefIdeal := hBandRefIdeal)
    ∧ quiescent_BandRefIdeal_pre_finite (hBandRefIdeal := hBandRefIdeal) (hPre_finite := hPre_finite)
    ∧ quiescent_Bias (hBias := hBias)
    ∧ quiescent_BiasIdeal (hBiasIdeal := hBiasIdeal)
    ∧ quiescent_BiasIdeal_pre_finite_bias (hBiasIdeal := hBiasIdeal) (hPre_finite_bias := hPre_finite_bias)
    ∧ quiescent_BiasRefIdeal (hBiasRefIdeal := hBiasRefIdeal)
    ∧ quiescent_BiasRefIdeal_pre_finite_bias (hBiasRefIdeal := hBiasRefIdeal) (hPre_finite_bias := hPre_finite_bias)
    ∧ quiescent_SsmWeight (hSsmWeight := hSsmWeight)
    ∧ quiescent_SsmWeightIdeal (hSsmWeightIdeal := hSsmWeightIdeal)
    ∧ quiescent_SsmWeightRefIdeal (hSsmWeightRefIdeal := hSsmWeightRefIdeal)
    ∧ quiescent_Ssd (hSsd := hSsd)
    ∧ quiescent_SsdIdeal (hSsdIdeal := hSsdIdeal)
    ∧ quiescent_Rwkv (hRwkv := hRwkv)
    ∧ quiescent_RwkvIdeal (hRwkvIdeal := hRwkvIdeal)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
    ∧ preserves_OutAb_OutAbIdeal
    ∧ algebraic_OutAbIdeal_OutAbRefIdeal (hOutAbIdeal := hOutAbIdeal) (hOutAbRefIdeal := hOutAbRefIdeal)
    ∧ preserves_Band_BandIdeal
    ∧ algebraic_BandIdeal_BandRefIdeal_pre_finite (hBandIdeal := hBandIdeal) (hBandRefIdeal := hBandRefIdeal) (hPre_finite := hPre_finite)
    ∧ preserves_Bias_BiasIdeal
    ∧ algebraic_BiasIdeal_BiasRefIdeal_pre_finite_bias (hBiasIdeal := hBiasIdeal) (hBiasRefIdeal := hBiasRefIdeal) (hPre_finite_bias := hPre_finite_bias)
    ∧ preserves_SsmWeight_SsmWeightIdeal
    ∧ algebraic_SsmWeightIdeal_SsmWeightRefIdeal (hSsmWeightIdeal := hSsmWeightIdeal) (hSsmWeightRefIdeal := hSsmWeightRefIdeal)
    ∧ preserves_Ssd_SsdIdeal
    ∧ preserves_Rwkv_RwkvIdeal
-- ==== Pre_finite.lean ====
abbrev S16384x6144 : Shape := ⟨2, ![16384, 6144]⟩
abbrev S16x128x640 : Shape := ⟨3, ![16, 128, 640]⟩
abbrev S16384x4096 : Shape := ⟨2, ![16384, 4096]⟩
abbrev S_ : Shape := ⟨0, ![]⟩

class Facts : Prop where
  slices_S16384x6144_S16384x4096_0_0 : S16384x6144.Slices ![0, 0] S16384x4096
  bitsLt_bf16_f32 : FTy.bits .bf16 < FTy.bits .f32
  bcast_S_S16384x4096 : S_.BroadcastsInDim S16384x4096 (![] : Fin 0 → Fin S16384x4096.rank)
  bcast_S_S16x128x640 : S_.BroadcastsInDim S16x128x640 (![] : Fin 0 → Fin S16x128x640.rank)

variable [Facts]

def fn {F : FTy → Type} [FloatOps F] (main_arg0 : FVec F S16384x6144 .bf16) (main_arg1 : FVec F S16x128x640 .f32) : IVec S16384x4096 1 × IVec S16x128x640 1 :=
  let main_v0 : FVec F S16384x4096 .bf16 := (extractStridedSlice S16384x4096 ![0, 0] · slices_S16384x6144_S16384x4096_0_0) main_arg0
  let main_v1 : FVec F S16384x4096 .f32 := (extf .f32 · bitsLt_bf16_f32) main_v0
  let main_v2 : FVec F S16384x4096 .f32 := Host.absf main_v1
  let main_cst : FVec F S_ .f32 := constant S_ .f32 0x7F800000#32
  let main_v3 : FVec F S16384x4096 .f32 := broadcastInDim S16384x4096 ![] bcast_S_S16384x4096 main_cst
  let main_v4 : IVec S16384x4096 1 := cmpf .olt main_v2 main_v3
  let main_v5 : FVec F S16x128x640 .f32 := Host.absf main_arg1
  let main_cst_0 : FVec F S_ .f32 := constant S_ .f32 0x7F800000#32
  let main_v6 : FVec F S16x128x640 .f32 := broadcastInDim S16x128x640 ![] bcast_S_S16x128x640 main_cst_0
  let main_v7 : IVec S16x128x640 1 := cmpf .olt main_v5 main_v6
  (main_v4, main_v7)
-- ==== Pre_finite_bias.lean ====
abbrev S1x16x320 : Shape := ⟨3, ![1, 16, 320]⟩
abbrev S_ : Shape := ⟨0, ![]⟩

class Facts : Prop where
  bcast_S_S1x16x320 : S_.BroadcastsInDim S1x16x320 (![] : Fin 0 → Fin S1x16x320.rank)

variable [Facts]

def fn {F : FTy → Type} [FloatOps F] (main_arg0 : FVec F S1x16x320 .f32) : IVec S1x16x320 1 :=
  let main_v0 : FVec F S1x16x320 .f32 := Host.absf main_arg0
  let main_cst : FVec F S_ .f32 := constant S_ .f32 0x7F800000#32
  let main_v1 : FVec F S1x16x320 .f32 := broadcastInDim S1x16x320 ![] bcast_S_S1x16x320 main_cst
  let main_v2 : IVec S1x16x320 1 := cmpf .olt main_v0 main_v1
  main_v2
-- ==== Ffn.lean ====
abbrev S16384x2048 : Shape := ⟨2, ![16384, 2048]⟩
abbrev S2x4x2048 : Shape := ⟨3, ![2, 4, 2048]⟩
abbrev S2x2048x5632 : Shape := ⟨3, ![2, 2048, 5632]⟩
abbrev S2x5632x2048 : Shape := ⟨3, ![2, 5632, 2048]⟩
abbrev S1x4x2048 : Shape := ⟨3, ![1, 4, 2048]⟩
abbrev S4x2048 : Shape := ⟨2, ![4, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S512x2048 : Shape := ⟨2, ![512, 2048]⟩
abbrev S1024x512 : Shape := ⟨2, ![1024, 512]⟩

abbrev nBuf : Space → Nat
  | .hbm => 13
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2x4x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x4x2048, .f32⟩
  | .hbm, ⟨6, _⟩ => ⟨S4x2048, .f32⟩
  | .hbm, ⟨7, _⟩ => ⟨S2x2048x5632, .bf16⟩
  | .hbm, ⟨8, _⟩ => ⟨S2x2048x5632, .bf16⟩
  | .hbm, ⟨9, _⟩ => ⟨S2x5632x2048, .bf16⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S2x4x2048 : Shape := ⟨3, ![2, 4, 2048]⟩
abbrev S2x2048x5632 : Shape := ⟨3, ![2, 2048, 5632]⟩
abbrev S2x5632x2048 : Shape := ⟨3, ![2, 5632, 2048]⟩
abbrev S1x1x2048 : Shape := ⟨3, ![1, 1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x5632 : Shape := ⟨3, ![1, 2048, 5632]⟩
abbrev S2048x5632 : Shape := ⟨2, ![2048, 5632]⟩
abbrev S16384x5632 : Shape := ⟨2, ![16384, 5632]⟩
abbrev S1x5632x2048 : Shape := ⟨3, ![1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x4x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x1x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S1x2048x5632, .f32⟩
  | .hbm, ⟨24, _⟩ => ⟨S2048x5632, .f32⟩
  | .hbm, ⟨25, _⟩ => ⟨S16384x5632, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S_, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S1x2048x5632, .f32⟩
  | .hbm, ⟨36, _⟩ => ⟨S2048x5632, .f32⟩
  | .hbm, ⟨37, _⟩ => ⟨S16384x5632, .f32⟩
  | .hbm, ⟨38, _⟩ => ⟨S16384x5632, .f32⟩
  | .hbm, ⟨39, _⟩ => ⟨S1x5632x2048, .f32⟩
  | .hbm, ⟨40, _⟩ => ⟨S5632x2048, .f32⟩
  | .hbm, ⟨41, _⟩ => ⟨S16384x2048, .f32⟩
  | .hbm, ⟨42, _⟩ => ⟨S1x1x2048, .f32⟩
  | .hbm, ⟨43, _⟩ => ⟨S2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Qkv.lean ====
abbrev S16384x2048 : Shape := ⟨2, ![16384, 2048]⟩
abbrev S2x4x2048 : Shape := ⟨3, ![2, 4, 2048]⟩
abbrev S1x2048x6144 : Shape := ⟨3, ![1, 2048, 6144]⟩
abbrev S1x4x2048 : Shape := ⟨3, ![1, 4, 2048]⟩
abbrev S4x2048 : Shape := ⟨2, ![4, 2048]⟩
abbrev S1x2048 : Shape := ⟨2, ![1, 2048]⟩
abbrev S2048x6144 : Shape := ⟨2, ![2048, 6144]⟩
abbrev S16384x6144 : Shape := ⟨2, ![16384, 6144]⟩
abbrev S1024x2048 : Shape := ⟨2, ![1024, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2x4x2048, .f32⟩
  | .hbm, ⟨2, _⟩ => ⟨S1x2048x6144, .f32⟩
  | .hbm, ⟨3, _⟩ => ⟨S1x4x2048, .f32⟩
  | .hbm, ⟨4, _⟩ => ⟨S4x2048, .f32⟩
  | .hbm, ⟨5, _⟩ => ⟨S1x2048, .f32⟩
  | .hbm, ⟨6, _⟩ => ⟨S2048x6144, .f32⟩
  | .hbm, ⟨7, _⟩ => ⟨S2048x6144, .bf16⟩
  | .hbm, ⟨8, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v5 : BitVec 1 := Scalar.cmpi .sgt arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S16384x2048 : Shape := ⟨2, ![16384, 2048]⟩
abbrev S2x4x2048 : Shape := ⟨3, ![2, 4, 2048]⟩
abbrev S1x2048x6144 : Shape := ⟨3, ![1, 2048, 6144]⟩
abbrev S1x1x2048 : Shape := ⟨3, ![1, 1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x6144 : Shape := ⟨2, ![2048, 6144]⟩
abbrev S16384x6144 : Shape := ⟨2, ![16384, 6144]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x4x2048, .f32⟩
  | .hbm, ⟨2, _⟩ => ⟨S1x2048x6144, .f32⟩
  | .hbm, ⟨3, _⟩ => ⟨S1x1x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x6144, .f32⟩
  | .hbm, ⟨22, _⟩ => ⟨S16384x6144, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x6144, .f32⟩
  | .hbm, ⟨30, _⟩ => ⟨S16384x6144, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Out.lean ====
abbrev S16384x2048 : Shape := ⟨2, ![16384, 2048]⟩
abbrev S1x2048x2048 : Shape := ⟨3, ![1, 2048, 2048]⟩
abbrev S2x4x2048 : Shape := ⟨3, ![2, 4, 2048]⟩
abbrev S1x4x2048 : Shape := ⟨3, ![1, 4, 2048]⟩
abbrev S4x2048 : Shape := ⟨2, ![4, 2048]⟩
abbrev S2048x2048 : Shape := ⟨2, ![2048, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2x4x2048, .f32⟩
  | .hbm, ⟨4, _⟩ => ⟨S1x4x2048, .f32⟩
  | .hbm, ⟨5, _⟩ => ⟨S4x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S16384x2048 : Shape := ⟨2, ![16384, 2048]⟩
abbrev S1x2048x2048 : Shape := ⟨3, ![1, 2048, 2048]⟩
abbrev S2x4x2048 : Shape := ⟨3, ![2, 4, 2048]⟩
abbrev S2048x2048 : Shape := ⟨2, ![2048, 2048]⟩
abbrev S1x1x2048 : Shape := ⟨3, ![1, 1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2x4x2048, .f32⟩
  | .hbm, ⟨4, _⟩ => ⟨S16384x2048, .f32⟩
  | .hbm, ⟨5, _⟩ => ⟨S2048x2048, .f32⟩
  | .hbm, ⟨6, _⟩ => ⟨S16384x2048, .f32⟩
  | .hbm, ⟨7, _⟩ => ⟨S1x1x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutAb.lean ====
abbrev S16384x1024 : Shape := ⟨2, ![16384, 1024]⟩
abbrev S1x2048x2048 : Shape := ⟨3, ![1, 2048, 2048]⟩
abbrev S16384x2048 : Shape := ⟨2, ![16384, 2048]⟩
abbrev S2x4x2048 : Shape := ⟨3, ![2, 4, 2048]⟩
abbrev S1x4x2048 : Shape := ⟨3, ![1, 4, 2048]⟩
abbrev S4x2048 : Shape := ⟨2, ![4, 2048]⟩
abbrev S2048x2048 : Shape := ⟨2, ![2048, 2048]⟩
abbrev S1x2048 : Shape := ⟨2, ![1, 2048]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S2x4x2048, .f32⟩
  | .hbm, ⟨5, _⟩ => ⟨S1x4x2048, .f32⟩
  | .hbm, ⟨6, _⟩ => ⟨S4x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutAbRefIdeal.lean ====
abbrev S16384x1024 : Shape := ⟨2, ![16384, 1024]⟩
abbrev S1x2048x2048 : Shape := ⟨3, ![1, 2048, 2048]⟩
abbrev S16384x2048 : Shape := ⟨2, ![16384, 2048]⟩
abbrev S2x4x2048 : Shape := ⟨3, ![2, 4, 2048]⟩
abbrev S2048x2048 : Shape := ⟨2, ![2048, 2048]⟩
abbrev S1x1x2048 : Shape := ⟨3, ![1, 1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S2x4x2048, .f32⟩
  | .hbm, ⟨5, _⟩ => ⟨S16384x2048, .bf16⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S1x1x2048, .f32⟩
  | .hbm, ⟨10, _⟩ => ⟨S2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Band.lean ====
abbrev S16384x6144 : Shape := ⟨2, ![16384, 6144]⟩
abbrev S16x128x640 : Shape := ⟨3, ![16, 128, 640]⟩
abbrev S16384x2048 : Shape := ⟨2, ![16384, 2048]⟩
abbrev S512x1024 : Shape := ⟨2, ![512, 1024]⟩
abbrev S8x128x640 : Shape := ⟨3, ![8, 128, 640]⟩
abbrev S128x640 : Shape := ⟨2, ![128, 640]⟩
abbrev S512x128 : Shape := ⟨2, ![512, 128]⟩
abbrev S1024x128 : Shape := ⟨2, ![1024, 128]⟩
abbrev S128x128 : Shape := ⟨2, ![128, 128]⟩
abbrev S640x128 : Shape := ⟨2, ![640, 128]⟩
abbrev S1x128x640 : Shape := ⟨3, ![1, 128, 640]⟩
abbrev S128 : Shape := ⟨1, ![128]⟩
abbrev S128x1 : Shape := ⟨2, ![128, 1]⟩
abbrev S128x384 : Shape := ⟨2, ![128, 384]⟩

abbrev nBuf : Space → Nat
  | .hbm => 3
  | .vmem => 14
  | .smem => 0
  | _ => 0

abbrev bufTy : (tb : Table) → Fin (tcTables nBuf tb) → BufTy
  | .hbm, ⟨0, _⟩ => ⟨S16384x6144, .bf16⟩
  | .hbm, ⟨1, _⟩ => ⟨S16x128x640, .f32⟩
  | .hbm, ⟨2, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S8x128x640, .f32⟩
  | .local _ .vmem, ⟨11, _⟩ => ⟨S8x128x640, .f32⟩
  | .local _ .vmem, ⟨12, _⟩ => ⟨S512x1024, .bf16⟩
  | .local _ .vmem, ⟨13, _⟩ => ⟨S512x1024, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 8], ![false, false, false]⟩

def k0_cond1 (i : grid0.Coords) : BitVec 1 :=
  let arg2 : BitVec 32 := BitVec.ofNat 32 (i 2).val
  let c0_i32_5 : BitVec 32 := 0#32
  let v33 : BitVec 1 := Scalar.cmpi .eq arg2 c0_i32_5
  let v34 : BitVec 32 := Scalar.extui v33
  let c0_i32_6 : BitVec 32 := 0#32
  let v35 : BitVec 1 := Scalar.cmpi .ne v34 c0_i32_6
  v35

def k0_cond2 (i : grid0.Coords) : BitVec 1 :=
  let arg2 : BitVec 32 := BitVec.ofNat 32 (i 2).val
  let c0_i32_7 : BitVec 32 := 0#32
  let v36 : BitVec 1 := Scalar.cmpi .sgt arg2 c0_i32_7
  let v37 : BitVec 32 := Scalar.extui v36
  let c0_i32_8 : BitVec 32 := 0#32
  let v38 : BitVec 1 := Scalar.cmpi .ne v37 c0_i32_8
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.addi c2_i32 arg1
  let c0_i32_0 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c4_i32 : BitVec 32 := 4#32
  let v4 : BitVec 32 := Scalar.addi c4_i32 arg1
  let c0_i32_0 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== BandIdeal.lean ====
variable {F : FTy → Type} [FloatOps F] [Named F]
def κ : String → Option EReal := fun
  | "mask" => some ⊥
  | _ => none
-- ==== BandRefIdeal.lean ====
abbrev S16384x6144 : Shape := ⟨2, ![16384, 6144]⟩
abbrev S16x128x640 : Shape := ⟨3, ![16, 128, 640]⟩
abbrev S16384x2048 : Shape := ⟨2, ![16384, 2048]⟩
abbrev S4x64x64x16x128 : Shape := ⟨5, ![4, 64, 64, 16, 128]⟩
abbrev S4x4096x16x128 : Shape := ⟨4, ![4, 4096, 16, 128]⟩
abbrev S_ : Shape := ⟨0, ![]⟩
abbrev S4x4608x16x128 : Shape := ⟨4, ![4, 4608, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S4x64x576x16x128 : Shape := ⟨5, ![4, 64, 576, 16, 128]⟩
abbrev S16x64x576 : Shape := ⟨3, ![16, 64, 576]⟩
abbrev S1x16x64x576 : Shape := ⟨4, ![1, 16, 64, 576]⟩
abbrev S2x16x64x576 : Shape := ⟨4, ![2, 16, 64, 576]⟩
abbrev S32x2x16x64x576 : Shape := ⟨5, ![32, 2, 16, 64, 576]⟩
abbrev S64x16x64x576 : Shape := ⟨4, ![64, 16, 64, 576]⟩
abbrev S4x64x16x64x576 : Shape := ⟨5, ![4, 64, 16, 64, 576]⟩
abbrev S1x64x16x64x576 : Shape := ⟨5, ![1, 64, 16, 64, 576]⟩
abbrev S1x64x1x1x576 : Shape := ⟨5, ![1, 64, 1, 1, 576]⟩
abbrev S4x64x16x64 : Shape := ⟨4, ![4, 64, 16, 64]⟩
abbrev S4x64x16x64x1 : Shape := ⟨5, ![4, 64, 16, 64, 1]⟩
abbrev S4x64x16x128x64 : Shape := ⟨5, ![4, 64, 16, 128, 64]⟩

abbrev nBuf : Space → Nat
  | .hbm => 89
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16x128x640, .f32⟩
  | .hbm, ⟨2, _⟩ => ⟨S16384x6144, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S4x64x64x16x128, .f32⟩
  | .hbm, ⟨7, _⟩ => ⟨S4x4096x16x128, .f32⟩
  | .hbm, ⟨8, _⟩ => ⟨S_, .i32⟩
  | .hbm, ⟨9, _⟩ => ⟨S_, .f32⟩
  | .hbm, ⟨10, _⟩ => ⟨S4x4608x16x128, .f32⟩
  | .hbm, ⟨11, _⟩ => ⟨S4x4096x16x128, .f32⟩
  | .hbm, ⟨12, _⟩ => ⟨S_, .i32⟩
  | .hbm, ⟨13, _⟩ => ⟨S_, .f32⟩
  | .hbm, ⟨14, _⟩ => ⟨S4x4608x16x128, .f32⟩
  | .hbm, ⟨15, _⟩ => ⟨S64, .i32⟩
  | .hbm, ⟨16, _⟩ => ⟨S64x1, .i32⟩
  | .hbm, ⟨17, _⟩ => ⟨S_, .i32⟩
  | .hbm, ⟨18, _⟩ => ⟨S64x1, .i32⟩
  | .hbm, ⟨19, _⟩ => ⟨S64x1, .i32⟩
  | .hbm, ⟨20, _⟩ => ⟨S576, .i32⟩
  | .hbm, ⟨21, _⟩ => ⟨S1x576, .i32⟩
  | .hbm, ⟨22, _⟩ => ⟨S64x576, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i1⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S64x576, .i32⟩
  | .hbm, ⟨32, _⟩ => ⟨S64x576x1, .i32⟩
  | .hbm, ⟨33, _⟩ => ⟨S4x64x576x16x128, .f32⟩
  | .hbm, ⟨34, _⟩ => ⟨S_, .i32⟩
  | .hbm, ⟨35, _⟩ => ⟨S64x576, .i32⟩
  | .hbm, ⟨36, _⟩ => ⟨S64x576, .i1⟩
  | .hbm, ⟨37, _⟩ => ⟨S_, .i32⟩
  | .hbm, ⟨38, _⟩ => ⟨S64x576, .i32⟩
  | .hbm, ⟨39, _⟩ => ⟨S64x576, .i32⟩
  | .hbm, ⟨40, _⟩ => ⟨S64x576, .i32⟩
  | .hbm, ⟨41, _⟩ => ⟨S64x576x1, .i32⟩
  | .hbm, ⟨42, _⟩ => ⟨S4x64x576x16x128, .f32⟩
  | .hbm, ⟨43, _⟩ => ⟨S16x64x576, .f32⟩
  | .hbm, ⟨44, _⟩ => ⟨S16x64x576, .f32⟩
  | .hbm, ⟨45, _⟩ => ⟨S1x16x64x576, .f32⟩
  | .hbm, ⟨46, _⟩ => ⟨S1x16x64x576, .f32⟩
  | .hbm, ⟨47, _⟩ => ⟨S2x16x64x576, .f32⟩
  | .hbm, ⟨48, _⟩ => ⟨S32x2x16x64x576, .f32⟩
  | .hbm, ⟨49, _⟩ => ⟨S64x16x64x576, .f32⟩
  | .hbm, ⟨50, _⟩ => ⟨S4x64x16x64x576, .f32⟩
  | .hbm, ⟨51, _⟩ => ⟨S1x64x16x64x576, .f32⟩
  | .hbm, ⟨52, _⟩ => ⟨S4x64x16x64x576, .f32⟩
  | .hbm, ⟨53, _⟩ => ⟨S4x64x16x64x576, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4x64x16x64x576, .f32⟩
  | .hbm, ⟨58, _⟩ => ⟨S4x64x16x64x576, .f32⟩
  | .hbm, ⟨59, _⟩ => ⟨S_, .i32⟩
  | .hbm, ⟨60, _⟩ => ⟨S64x576, .i32⟩
  | .hbm, ⟨61, _⟩ => ⟨S64x576, .i32⟩
  | .hbm, ⟨62, _⟩ => ⟨S_, .i32⟩
  | .hbm, ⟨63, _⟩ => ⟨S64x576, .i32⟩
  | .hbm, ⟨64, _⟩ => ⟨S64x576, .i1⟩
  | .hbm, ⟨65, _⟩ => ⟨S1x64x1x1x576, .i1⟩
  | .hbm, ⟨66, _⟩ => ⟨S_, .f32⟩
  | .hbm, ⟨67, _⟩ => ⟨S_, .f32⟩
  | .hbm, ⟨68, _⟩ => ⟨S4x64x16x64x576, .i1⟩
  | .hbm, ⟨69, _⟩ => ⟨S4x64x16x64x576, .f32⟩
  | .hbm, ⟨70, _⟩ => ⟨S4x64x16x64x576, .f32⟩
  | .hbm, ⟨71, _⟩ => ⟨S_, .f32⟩
  | .hbm, ⟨72, _⟩ => ⟨S4x64x16x64, .f32⟩
  | .hbm, ⟨73, _⟩ => ⟨S_, .f32⟩
  | .hbm, ⟨74, _⟩ => ⟨S4x64x16x64, .f32⟩
  | .hbm, ⟨75, _⟩ => ⟨S4x64x16x64, .f32⟩
  | .hbm, ⟨76, _⟩ => ⟨S4x64x16x64x1, .f32⟩
  | .hbm, ⟨77, _⟩ => ⟨S4x64x16x64x576, .f32⟩
  | .hbm, ⟨78, _⟩ => ⟨S4x64x16x64x576, .f32⟩
  | .hbm, ⟨79, _⟩ => ⟨S4x64x16x64x576, .f32⟩
  | .hbm, ⟨80, _⟩ => ⟨S_, .f32⟩
  | .hbm, ⟨81, _⟩ => ⟨S4x64x16x64, .f32⟩
  | .hbm, ⟨82, _⟩ => ⟨S4x64x16x64x1, .f32⟩
  | .hbm, ⟨83, _⟩ => ⟨S4x64x16x64x576, .f32⟩
  | .hbm, ⟨84, _⟩ => ⟨S4x64x16x64x576, .f32⟩
  | .hbm, ⟨85, _⟩ => ⟨S4x64x16x128x64, .f32⟩
  | .hbm, ⟨86, _⟩ => ⟨S4x64x64x16x128, .f32⟩
  | .hbm, ⟨87, _⟩ => ⟨S16384x2048, .f32⟩
  | .hbm, ⟨88, _⟩ => ⟨S16384x2048, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_6 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Bias.lean ====
abbrev S1x16x320 : Shape := ⟨3, ![1, 16, 320]⟩
abbrev S16x320 : Shape := ⟨2, ![16, 320]⟩
abbrev S128x16x640 : Shape := ⟨3, ![128, 16, 640]⟩
abbrev S320x768 : Shape := ⟨2, ![320, 768]⟩
abbrev S16x768 : Shape := ⟨2, ![16, 768]⟩
abbrev S16x640 : Shape := ⟨2, ![16, 640]⟩
abbrev S1x16x640 : Shape := ⟨3, ![1, 16, 640]⟩

abbrev nBuf : Space → Nat
  | .hbm => 3
  | .vmem => 2
  | .smem => 0
  | _ => 0

abbrev bufTy : (tb : Table) → Fin (tcTables nBuf tb) → BufTy
  | .hbm, ⟨0, _⟩ => ⟨S1x16x320, .f32⟩
  | .hbm, ⟨1, _⟩ => ⟨S16x320, .f32⟩
  | .hbm, ⟨2, _⟩ => ⟨S128x16x640, .f32⟩
  | .local _ .vmem, ⟨0, _⟩ => ⟨S16x320, .f32⟩
  | .local _ .vmem, ⟨1, _⟩ => ⟨S128x16x640, .f32⟩
  | _, _ => ⟨S1x16x320, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BiasRefIdeal.lean ====
abbrev S1x16x320 : Shape := ⟨3, ![1, 16, 320]⟩
abbrev S128 : Shape := ⟨1, ![128]⟩
abbrev S128x1 : Shape := ⟨2, ![128, 1]⟩
abbrev S_ : Shape := ⟨0, ![]⟩
abbrev S640 : Shape := ⟨1, ![640]⟩
abbrev S1x640 : Shape := ⟨2, ![1, 640]⟩
abbrev S128x640 : Shape := ⟨2, ![128, 640]⟩
abbrev S16x320 : Shape := ⟨2, ![16, 320]⟩
abbrev S128x640x1 : Shape := ⟨3, ![128, 640, 1]⟩
abbrev S16x128x640 : Shape := ⟨3, ![16, 128, 640]⟩
abbrev S128x16x640 : Shape := ⟨3, ![128, 16, 640]⟩

abbrev nBuf : Space → Nat
  | .hbm => 36
  | .vmem => 0
  | .smem => 0
  | _ => 0

abbrev bufTy : (tb : Table) → Fin (tcTables nBuf tb) → BufTy
  | .hbm, ⟨0, _⟩ => ⟨S1x16x320, .f32⟩
  | .hbm, ⟨1, _⟩ => ⟨S128, .i32⟩
  | .hbm, ⟨2, _⟩ => ⟨S128x1, .i32⟩
  | .hbm, ⟨3, _⟩ => ⟨S_, .i32⟩
  | .hbm, ⟨4, _⟩ => ⟨S128x1, .i32⟩
  | .hbm, ⟨5, _⟩ => ⟨S128x1, .i32⟩
  | .hbm, ⟨6, _⟩ => ⟨S640, .i32⟩
  | .hbm, ⟨7, _⟩ => ⟨S1x640, .i32⟩
  | .hbm, ⟨8, _⟩ => ⟨S128x640, .i32⟩
  | .hbm, ⟨9, _⟩ => ⟨S128x640, .i32⟩
  | .hbm, ⟨10, _⟩ => ⟨S128x640, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S128x640, .i32⟩
  | .hbm, ⟨15, _⟩ => ⟨S128x640, .i32⟩
  | .hbm, ⟨16, _⟩ => ⟨S_, .i32⟩
  | .hbm, ⟨17, _⟩ => ⟨S128x640, .i32⟩
  | .hbm, ⟨18, _⟩ => ⟨S128x640, .i32⟩
  | .hbm, ⟨19, _⟩ => ⟨S_, .i32⟩
  | .hbm, ⟨20, _⟩ => ⟨S128x640, .i32⟩
  | .hbm, ⟨21, _⟩ => ⟨S128x640, .i32⟩
  | .hbm, ⟨22, _⟩ => ⟨S16x320, .f32⟩
  | .hbm, ⟨23, _⟩ => ⟨S_, .i32⟩
  | .hbm, ⟨24, _⟩ => ⟨S128x640, .i32⟩
  | .hbm, ⟨25, _⟩ => ⟨S128x640, .i1⟩
  | .hbm, ⟨26, _⟩ => ⟨S_, .i32⟩
  | .hbm, ⟨27, _⟩ => ⟨S128x640, .i32⟩
  | .hbm, ⟨28, _⟩ => ⟨S128x640, .i32⟩
  | .hbm, ⟨29, _⟩ => ⟨S128x640, .i32⟩
  | .hbm, ⟨30, _⟩ => ⟨S128x640x1, .i32⟩
  | .hbm, ⟨31, _⟩ => ⟨S16x128x640, .f32⟩
  | .hbm, ⟨32, _⟩ => ⟨S_, .f32⟩
  | .hbm, ⟨33, _⟩ => ⟨S16x128x640, .f32⟩
  | .hbm, ⟨34, _⟩ => ⟨S16x128x640, .f32⟩
  | .hbm, ⟨35, _⟩ => ⟨S128x16x640, .f32⟩
  | _, _ => ⟨S1x16x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== SsmWeight.lean ====
abbrev S1x2048x6096 : Shape := ⟨3, ![1, 2048, 6096]⟩
abbrev S2048x6096 : Shape := ⟨2, ![2048, 6096]⟩
abbrev S2048x2688 : Shape := ⟨2, ![2048, 2688]⟩
abbrev S256x6096 : Shape := ⟨2, ![256, 6096]⟩
abbrev S256x2688 : Shape := ⟨2, ![256, 2688]⟩
abbrev S256x2560 : Shape := ⟨2, ![256, 2560]⟩
abbrev S256x128 : Shape := ⟨2, ![256, 128]⟩

abbrev nBuf : Space → Nat
  | .hbm => 4
  | .vmem => 4
  | .smem => 0
  | _ => 0

abbrev bufTy : (tb : Table) → Fin (tcTables nBuf tb) → BufTy
  | .hbm, ⟨0, _⟩ => ⟨S1x2048x6096, .f32⟩
  | .hbm, ⟨1, _⟩ => ⟨S2048x6096, .f32⟩
  | .hbm, ⟨2, _⟩ => ⟨S2048x6096, .bf16⟩
  | .hbm, ⟨3, _⟩ => ⟨S2048x2688, .bf16⟩
  | .local _ .vmem, ⟨0, _⟩ => ⟨S256x6096, .bf16⟩
  | .local _ .vmem, ⟨1, _⟩ => ⟨S256x6096, .bf16⟩
  | .local _ .vmem, ⟨2, _⟩ => ⟨S256x2688, .bf16⟩
  | .local _ .vmem, ⟨3, _⟩ => ⟨S256x2688, .bf16⟩
  | _, _ => ⟨S1x2048x6096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SsmWeightRefIdeal.lean ====
abbrev S1x2048x6096 : Shape := ⟨3, ![1, 2048, 6096]⟩
abbrev S2048x6096 : Shape := ⟨2, ![2048, 6096]⟩
abbrev S2048x2576 : Shape := ⟨2, ![2048, 2576]⟩
abbrev S_ : Shape := ⟨0, ![]⟩
abbrev S2048x2688 : Shape := ⟨2, ![2048, 2688]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x6096, .f32⟩
  | .hbm, ⟨1, _⟩ => ⟨S2048x6096, .f32⟩
  | .hbm, ⟨2, _⟩ => ⟨S2048x2576, .f32⟩
  | .hbm, ⟨3, _⟩ => ⟨S_, .i32⟩
  | .hbm, ⟨4, _⟩ => ⟨S_, .f32⟩
  | .hbm, ⟨5, _⟩ => ⟨S2048x2688, .f32⟩
  | .hbm, ⟨6, _⟩ => ⟨S2048x2688, .bf16⟩
  | _, _ => ⟨S1x2048x6096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ssd.lean ====
abbrev S16384x2048 : Shape := ⟨2, ![16384, 2048]⟩
abbrev S2x4x2048 : Shape := ⟨3, ![2, 4, 2048]⟩
abbrev S2048x2688 : Shape := ⟨2, ![2048, 2688]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x4x2048 : Shape := ⟨3, ![1, 4, 2048]⟩
abbrev S4x2048 : Shape := ⟨2, ![4, 2048]⟩
abbrev S1x2048 : Shape := ⟨2, ![1, 2048]⟩
abbrev S4x1536 : Shape := ⟨2, ![4, 1536]⟩
abbrev S1536 : Shape := ⟨1, ![1536]⟩
abbrev S16 : Shape := ⟨1, ![16]⟩
abbrev S_ : Shape := ⟨0, ![]⟩
abbrev S1x128 : Shape := ⟨2, ![1, 128]⟩
abbrev S16x64 : Shape := ⟨2, ![16, 64]⟩
abbrev S1024 : Shape := ⟨1, ![1024]⟩
abbrev S16384x1024 : Shape := ⟨2, ![16384, 1024]⟩
abbrev S256x2048 : Shape := ⟨2, ![256, 2048]⟩
abbrev S256x1024 : Shape := ⟨2, ![256, 1024]⟩
abbrev S256x2688 : Shape := ⟨2, ![256, 2688]⟩
abbrev S8x1536 : Shape := ⟨2, ![8, 1536]⟩
abbrev S2x128x512 : Shape := ⟨3, ![2, 128, 512]⟩
abbrev S256 : Shape := ⟨1, ![256]⟩
abbrev S256x1 : Shape := ⟨2, ![256, 1]⟩
abbrev S2048x1024 : Shape := ⟨2, ![2048, 1024]⟩
abbrev S2048x640 : Shape := ⟨2, ![2048, 640]⟩
abbrev S256x640 : Shape := ⟨2, ![256, 640]⟩
abbrev S256x1536 : Shape := ⟨2, ![256, 1536]⟩
abbrev S256x128 : Shape := ⟨2, ![256, 128]⟩
abbrev S264x1536 : Shape := ⟨2, ![264, 1536]⟩
abbrev S256x256 : Shape := ⟨2, ![256, 256]⟩
abbrev S128x1024 : Shape := ⟨2, ![128, 1024]⟩
abbrev S64x64 : Shape := ⟨2, ![64, 64]⟩
abbrev S64x1024 : Shape := ⟨2, ![64, 1024]⟩
abbrev S64x128 : Shape := ⟨2, ![64, 128]⟩
abbrev S128x64 : Shape := ⟨2, ![128, 64]⟩
abbrev S1x128x512 : Shape := ⟨3, ![1, 128, 512]⟩
abbrev S128x512 : Shape := ⟨2, ![128, 512]⟩
abbrev S64x512 : Shape := ⟨2, ![64, 512]⟩
abbrev S1x64 : Shape := ⟨2, ![1, 64]⟩
abbrev S1x512 : Shape := ⟨2, ![1, 512]⟩
abbrev S256x512 : Shape := ⟨2, ![256, 512]⟩

abbrev nBuf : Space → Nat
  | .hbm => 32
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2x4x2048, .f32⟩
  | .hbm, ⟨2, _⟩ => ⟨S2048x2688, .bf16⟩
  | .hbm, ⟨3, _⟩ => ⟨S1x4x1536, .f32⟩
  | .hbm, ⟨4, _⟩ => ⟨S1x1536, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x1024, .f32⟩
  | .hbm, ⟨9, _⟩ => ⟨S1x4x2048, .f32⟩
  | .hbm, ⟨10, _⟩ => ⟨S4x2048, .f32⟩
  | .hbm, ⟨11, _⟩ => ⟨S1x2048, .f32⟩
  | .hbm, ⟨12, _⟩ => ⟨S4x1536, .f32⟩
  | .hbm, ⟨13, _⟩ => ⟨S1536, .f32⟩
  | .hbm, ⟨14, _⟩ => ⟨S1x1536, .f32⟩
  | .hbm, ⟨15, _⟩ => ⟨S16, .f32⟩
  | .hbm, ⟨16, _⟩ => ⟨S1x16, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S16, .f32⟩
  | .hbm, ⟨21, _⟩ => ⟨S1x16, .f32⟩
  | .hbm, ⟨22, _⟩ => ⟨S_, .i32⟩
  | .hbm, ⟨23, _⟩ => ⟨S_, .f32⟩
  | .hbm, ⟨24, _⟩ => ⟨S1x128, .f32⟩
  | .hbm, ⟨25, _⟩ => ⟨S16, .f32⟩
  | .hbm, ⟨26, _⟩ => ⟨S16x64, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S16384x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2688, .bf16⟩
  | .local _ .vmem, ⟨4, _⟩ => ⟨S4x1536, .f32⟩
  | .local _ .vmem, ⟨5, _⟩ => ⟨S1x1536, .f32⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x2688, .f32⟩
  | .local _ .vmem, ⟨13, _⟩ => ⟨S8x1536, .f32⟩
  | .local _ .vmem, ⟨14, _⟩ => ⟨S2x128x512, .f32⟩
  | .local _ .vmem, ⟨15, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Rwkv.lean ====
abbrev S16384x2048 : Shape := ⟨2, ![16384, 2048]⟩
abbrev S2x4x2048 : Shape := ⟨3, ![2, 4, 2048]⟩
abbrev S1x2048x6096 : Shape := ⟨3, ![1, 2048, 6096]⟩
abbrev S1x3520 : Shape := ⟨2, ![1, 3520]⟩
abbrev S1x1024 : Shape := ⟨2, ![1, 1024]⟩
abbrev S1x96x1024 : Shape := ⟨3, ![1, 96, 1024]⟩
abbrev S1x256x1024 : Shape := ⟨3, ![1, 256, 1024]⟩
abbrev S1x16x64 : Shape := ⟨3, ![1, 16, 64]⟩
abbrev S1x4x2048 : Shape := ⟨3, ![1, 4, 2048]⟩
abbrev S4x2048 : Shape := ⟨2, ![4, 2048]⟩
abbrev S3520 : Shape := ⟨1, ![3520]⟩
abbrev S_ : Shape := ⟨0, ![]⟩
abbrev S1x3584 : Shape := ⟨2, ![1, 3584]⟩
abbrev S96x1024 : Shape := ⟨2, ![96, 1024]⟩
abbrev S128x1024 : Shape := ⟨2, ![128, 1024]⟩
abbrev S256x1024 : Shape := ⟨2, ![256, 1024]⟩
abbrev S384x1024 : Shape := ⟨2, ![384, 1024]⟩
abbrev S1x2048 : Shape := ⟨2, ![1, 2048]⟩
abbrev S2048x6096 : Shape := ⟨2, ![2048, 6096]⟩
abbrev S1024 : Shape := ⟨1, ![1024]⟩
abbrev S16x64 : Shape := ⟨2, ![16, 64]⟩
abbrev S16384x1024 : Shape := ⟨2, ![16384, 1024]⟩
abbrev S256x2048 : Shape := ⟨2, ![256, 2048]⟩
abbrev S2048x3584 : Shape := ⟨2, ![2048, 3584]⟩
abbrev S256x3584 : Shape := ⟨2, ![256, 3584]⟩
abbrev S8x3584 : Shape := ⟨2, ![8, 3584]⟩
abbrev S16x64x64 : Shape := ⟨3, ![16, 64, 64]⟩
abbrev S8x1024 : Shape := ⟨2, ![8, 1024]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1x512 : Shape := ⟨2, ![1, 512]⟩
abbrev S256x128 : Shape := ⟨2, ![256, 128]⟩
abbrev S256x256 : Shape := ⟨2, ![256, 256]⟩
abbrev S256x384 : Shape := ⟨2, ![256, 384]⟩
abbrev S256x3072 : Shape := ⟨2, ![256, 3072]⟩
abbrev S1x3072 : Shape := ⟨2, ![1, 3072]⟩
abbrev S64x64 : Shape := ⟨2, ![64, 64]⟩
abbrev S64x128 : Shape := ⟨2, ![64, 128]⟩
abbrev S128x64 : Shape := ⟨2, ![128, 64]⟩
abbrev S128x128 : Shape := ⟨2, ![128, 128]⟩
abbrev S1x64x64 : Shape := ⟨3, ![1, 64, 64]⟩
abbrev S1x64 : Shape := ⟨2, ![1, 64]⟩

abbrev nBuf : Space → Nat
  | .hbm => 54
  | .vmem => 27
  | .smem => 0
  | _ => 0

abbrev bufTy : (tb : Table) → Fin (tcTables nBuf tb) → BufTy
  | .hbm, ⟨0, _⟩ => ⟨S16384x2048, .f32⟩
  | .hbm, ⟨1, _⟩ => ⟨S2x4x2048, .f32⟩
  | .hbm, ⟨2, _⟩ => ⟨S1x2048x6096, .f32⟩
  | .hbm, ⟨3, _⟩ => ⟨S1x3520, .f32⟩
  | .hbm, ⟨4, _⟩ => ⟨S1x1024, .f32⟩
  | .hbm, ⟨5, _⟩ => ⟨S1x96x1024, .f32⟩
  | .hbm, ⟨6, _⟩ => ⟨S1x1024, .f32⟩
  | .hbm, ⟨7, _⟩ => ⟨S1x96x1024, .f32⟩
  | .hbm, ⟨8, _⟩ => ⟨S1x256x1024, .f32⟩
  | .hbm, ⟨9, _⟩ => ⟨S1x1024, .f32⟩
  | .hbm, ⟨10, _⟩ => ⟨S1x1024, .f32⟩
  | .hbm, ⟨11, _⟩ => ⟨S1x16x64, .f32⟩
  | .hbm, ⟨12, _⟩ => ⟨S1x1024, .f32⟩
  | .hbm, ⟨13, _⟩ => ⟨S1x1024, .f32⟩
  | .hbm, ⟨14, _⟩ => ⟨S1x4x2048, .f32⟩
  | .hbm, ⟨15, _⟩ => ⟨S4x2048, .f32⟩
  | .hbm, ⟨16, _⟩ => ⟨S3520, .f32⟩
  | .hbm, ⟨17, _⟩ => ⟨S1x3520, .f32⟩
  | .hbm, ⟨18, _⟩ => ⟨S_, .i32⟩
  | .hbm, ⟨19, _⟩ => ⟨S_, .f32⟩
  | .hbm, ⟨20, _⟩ => ⟨S1x3584, .f32⟩
  | .hbm, ⟨21, _⟩ => ⟨S96x1024, .f32⟩
  | .hbm, ⟨22, _⟩ => ⟨S_, .i32⟩
  | .hbm, ⟨23, _⟩ => ⟨S_, .f32⟩
  | .hbm, ⟨24, _⟩ => ⟨S128x1024, .f32⟩
  | .hbm, ⟨25, _⟩ => ⟨S128x1024, .bf16⟩
  | .hbm, ⟨26, _⟩ => ⟨S96x1024, .f32⟩
  | .hbm, ⟨27, _⟩ => ⟨S_, .i32⟩
  | .hbm, ⟨28, _⟩ => ⟨S_, .f32⟩
  | .hbm, ⟨29, _⟩ => ⟨S256x1024, .f32⟩
  | .hbm, ⟨30, _⟩ => ⟨S256x1024, .bf16⟩
  | .hbm, ⟨31, _⟩ => ⟨S256x1024, .f32⟩
  | .hbm, ⟨32, _⟩ => ⟨S_, .i32⟩
  | .hbm, ⟨33, _⟩ => ⟨S_, .f32⟩
  | .hbm, ⟨34, _⟩ => ⟨S384x1024, .f32⟩
  | .hbm, ⟨35, _⟩ => ⟨S384x1024, .bf16⟩
  | .hbm, ⟨36, _⟩ => ⟨S1x2048, .f32⟩
  | .hbm, ⟨37, _⟩ => ⟨S2048x6096, .f32⟩
  | .hbm, ⟨38, _⟩ => ⟨S2048x6096, .bf16⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S16x64, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S16384x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3584, .bf16⟩
  | .local _ .vmem, ⟨4, _⟩ => ⟨S1x3584, .f32⟩
  | .local _ .vmem, ⟨5, _⟩ => ⟨S1x1024, .f32⟩
  | .local _ .vmem, ⟨6, _⟩ => ⟨S128x1024, .bf16⟩
  | .local _ .vmem, ⟨7, _⟩ => ⟨S1x1024, .f32⟩
  | .local _ .vmem, ⟨8, _⟩ => ⟨S256x1024, .bf16⟩
  | .local _ .vmem, ⟨9, _⟩ => ⟨S384x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x3584, .f32⟩
  | .local _ .vmem, ⟨18, _⟩ => ⟨S8x3584, .f32⟩
  | .local _ .vmem, ⟨19, _⟩ => ⟨S16x64x64, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S8x1024, .f32⟩
  | .local _ .vmem, ⟨26, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_call1_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_call2_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_call3_v0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

@[reducible] def k0_t1_loop : Scf.Loop 32 :=
  let c0_i32_196 : BitVec 32 := 0#32
  let c4_i32_197 : BitVec 32 := 4#32
  let v573 : BitVec 32 := Scalar.addi c0_i32_196 c4_i32_197
  let c1_i32_198 : BitVec 32 := 1#32
  ⟨c0_i32_196, v573, c1_i32_198⟩
def k0_mult1 (k0_t1 : Fin k0_t1_loop.trips) : BitVec 32 :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  v663
def k0_off1 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let v665 : Index := Scalar.indexCast arg27
  let c0_228 : Index := 0#32
  ![v665.toNat, 0]
def k0_off2 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v667 : Index := Scalar.indexCast v664
  let c0_229 : Index := 0#32
  ![v667.toNat, 0]
def k0_off3 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v669 : Index := Scalar.indexCast v664
  let c64 : Index := 64#32
  ![v669.toNat, 64]
def k0_off4 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v671 : Index := Scalar.indexCast v664
  let c128 : Index := 128#32
  ![v671.toNat, 128]
def k0_off5 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v673 : Index := Scalar.indexCast v664
  let c192 : Index := 192#32
  ![v673.toNat, 192]
def k0_off6 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v675 : Index := Scalar.indexCast v664
  let c256 : Index := 256#32
  ![v675.toNat, 256]
def k0_off7 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v677 : Index := Scalar.indexCast v664
  let c320 : Index := 320#32
  ![v677.toNat, 320]
def k0_off8 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v679 : Index := Scalar.indexCast v664
  let c384 : Index := 384#32
  ![v679.toNat, 384]
def k0_off9 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v681 : Index := Scalar.indexCast v664
  let c448 : Index := 448#32
  ![v681.toNat, 448]
def k0_off10 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v683 : Index := Scalar.indexCast v664
  let c512_230 : Index := 512#32
  ![v683.toNat, 512]
def k0_off11 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v685 : Index := Scalar.indexCast v664
  let c576 : Index := 576#32
  ![v685.toNat, 576]
def k0_off12 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v687 : Index := Scalar.indexCast v664
  let c640 : Index := 640#32
  ![v687.toNat, 640]
def k0_off13 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v689 : Index := Scalar.indexCast v664
  let c704 : Index := 704#32
  ![v689.toNat, 704]
def k0_off14 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v691 : Index := Scalar.indexCast v664
  let c768 : Index := 768#32
  ![v691.toNat, 768]
def k0_off15 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v693 : Index := Scalar.indexCast v664
  let c832 : Index := 832#32
  ![v693.toNat, 832]
def k0_off16 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v695 : Index := Scalar.indexCast v664
  let c896 : Index := 896#32
  ![v695.toNat, 896]
def k0_off17 (k0_t1 : Fin k0_t1_loop.trips) : Fin 2 → Nat :=
  let c0_i32_196 : BitVec 32 := 0#32
  let c1_i32_198 : BitVec 32 := 1#32
  let arg27 : BitVec 32 := Scf.iv c0_i32_196 c1_i32_198 k0_t1
  let c64_i32_227 : BitVec 32 := 64#32
  let v663 : BitVec 32 := Scalar.muli arg27 c64_i32_227
  let v664 : BitVec 32 := v663
  let v697 : Index := Scalar.indexCast v664
  let c960 : Index := 960#32
  ![v697.toNat, 960]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Proof.BandIdealRunA.lean ====
/-
  The attention over the band, its masked scores minus infinity: the body's run at a first chunk of a sequence.
-/
module

public import proofs.«01_k».proof.Proof.Gen.BandIdeal.Frame.Runs

@[expose] public section

set_option maxRecDepth 16384

noncomputable section

namespace Cert.BandIdeal.Body

open Cert.BandIdeal Cert.BandIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body's stores leave in the output's block at the first point of a sequence (its position divisible by 8), as pieces, the last store
    first; with it the proof that the body, run on whole blocks, ends with the inputs as they were and the pieces written. -/
noncomputable def kernelRun0_A (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x128x640 .f32) (harg8 : arg8.IsWhole) (arg9 : Memref sig .tc .vmem S512x1024 .bf16) (harg9 : arg9.IsWhole) (hc0 : cond0_0 i) (hc1 : ¬cond0_1 i)
    (x0 : Vec F S512x1024 .bf16) (x1 : Vec F S512x1024 .bf16) (x2 : Vec F S512x1024 .bf16) (x3 : Vec F S512x1024 .bf16) (x4 : Vec F S512x1024 .bf16) (x5 : Vec F S8x128x640 .f32) :
    { L6 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)) -∗ K ⟨⟩))
          ⊢ wp frame (wpE (defs₀ (F := F)) Variants.none c none) E (cc0_band_attention i arg3 harg3 arg4 harg4 arg5 harg5 arg6 harg6 arg7 harg7 arg8 harg8 arg9 harg9) K } := by
  refine ⟨?_, fun E K => ?run⟩
  case run =>
    unfold cc0_band_attention
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec_parts (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.BandIdeal.Body

end
-- ==== Proof.BandIdealRunB.lean ====
/-
  The attention over the band, its masked scores minus infinity: the body's run at a later chunk of a sequence.
-/
module

public import proofs.«01_k».proof.Proof.Gen.BandIdeal.Frame.Runs

@[expose] public section

set_option maxRecDepth 16384

noncomputable section

namespace Cert.BandIdeal.Body

open Cert.BandIdeal Cert.BandIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body's stores leave in the output's block at a later point of a sequence, as pieces, the last store
    first; with it the proof that the body, run on whole blocks, ends with the inputs as they were and the pieces written. -/
noncomputable def kernelRun0_B (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x128x640 .f32) (harg8 : arg8.IsWhole) (arg9 : Memref sig .tc .vmem S512x1024 .bf16) (harg9 : arg9.IsWhole) (hc0 : ¬cond0_0 i) (hc1 : cond0_1 i)
    (x0 : Vec F S512x1024 .bf16) (x1 : Vec F S512x1024 .bf16) (x2 : Vec F S512x1024 .bf16) (x3 : Vec F S512x1024 .bf16) (x4 : Vec F S512x1024 .bf16) (x5 : Vec F S8x128x640 .f32) :
    { L6 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)) -∗ K ⟨⟩))
          ⊢ wp frame (wpE (defs₀ (F := F)) Variants.none c none) E (cc0_band_attention i arg3 harg3 arg4 harg4 arg5 harg5 arg6 harg6 arg7 harg7 arg8 harg8 arg9 harg9) K } := by
  refine ⟨?_, fun E K => ?run⟩
  case run =>
    unfold cc0_band_attention
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec_parts (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.BandIdeal.Body

end
-- ==== Proof.BandIdealFrame.lean ====
/-
  The attention over the band, its masked scores minus infinity: no point faults, and the run ends with the arguments unchanged.
-/
module

public import proofs.«01_k».proof.Proof.BandIdealRunA
public import proofs.«01_k».proof.Proof.BandIdealRunB
public import Idealize.ShloMosaic.Lib.Claim

@[expose] public section

set_option maxRecDepth 16384

noncomputable section

namespace Cert.BandIdeal.Body

open Cert.BandIdeal Cert.BandIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The 32 pieces a first point stores tile the output's block. -/
theorem cover0_A_6 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x128x640 .f32) (harg8 : arg8.IsWhole) (arg9 : Memref sig .tc .vmem S512x1024 .bf16) (harg9 : arg9.IsWhole) (hc0 : cond0_0 i) (hc1 : ¬cond0_1 i)
    (x0 : Vec F S512x1024 .bf16) (x1 : Vec F S512x1024 .bf16) (x2 : Vec F S512x1024 .bf16) (x3 : Vec F S512x1024 .bf16) (x4 : Vec F S512x1024 .bf16) (x5 : Vec F S8x128x640 .f32) (y : S512x1024.Idx) :
    ∃ pc ∈ (kernelRun0_A c i arg3 harg3 arg4 harg4 arg5 harg5 arg6 harg6 arg7 harg7 arg8 harg8 arg9 harg9 hc0 hc1 x0 x1 x2 x3 x4 x5).1, y ∈ pc.1.set :=
  View.cover_of_tiledL (kernelRun0_A c i arg3 harg3 arg4 harg4 arg5 harg5 arg6 harg6 arg7 harg7 arg8 harg8 arg9 harg9 hc0 hc1 x0 x1 x2 x3 x4 x5).1 S128x128.size (by sl_kernel_rfl) y

/-- What a first point leaves in the output's block: its pieces read back. -/
def out0_A_6 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x128x640 .f32) (harg8 : arg8.IsWhole) (arg9 : Memref sig .tc .vmem S512x1024 .bf16) (harg9 : arg9.IsWhole) (hc0 : cond0_0 i) (hc1 : ¬cond0_1 i)
    (x0 : Vec F S512x1024 .bf16) (x1 : Vec F S512x1024 .bf16) (x2 : Vec F S512x1024 .bf16) (x3 : Vec F S512x1024 .bf16) (x4 : Vec F S512x1024 .bf16) (x5 : Vec F S8x128x640 .f32) : Vec F S512x1024 .bf16 :=
  VO0_6.read (Elt F) (VO0_6.writes (Elt F) VO0_6.junk (kernelRun0_A c i arg3 harg3 arg4 harg4 arg5 harg5 arg6 harg6 arg7 harg7 arg8 harg8 arg9 harg9 hc0 hc1 x0 x1 x2 x3 x4 x5).1)

/-- The 32 pieces a later point stores tile the output's block. -/
theorem cover0_B_6 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x128x640 .f32) (harg8 : arg8.IsWhole) (arg9 : Memref sig .tc .vmem S512x1024 .bf16) (harg9 : arg9.IsWhole) (hc0 : ¬cond0_0 i) (hc1 : cond0_1 i)
    (x0 : Vec F S512x1024 .bf16) (x1 : Vec F S512x1024 .bf16) (x2 : Vec F S512x1024 .bf16) (x3 : Vec F S512x1024 .bf16) (x4 : Vec F S512x1024 .bf16) (x5 : Vec F S8x128x640 .f32) (y : S512x1024.Idx) :
    ∃ pc ∈ (kernelRun0_B c i arg3 harg3 arg4 harg4 arg5 harg5 arg6 harg6 arg7 harg7 arg8 harg8 arg9 harg9 hc0 hc1 x0 x1 x2 x3 x4 x5).1, y ∈ pc.1.set :=
  View.cover_of_tiledL (kernelRun0_B c i arg3 harg3 arg4 harg4 arg5 harg5 arg6 harg6 arg7 harg7 arg8 harg8 arg9 harg9 hc0 hc1 x0 x1 x2 x3 x4 x5).1 S128x128.size (by sl_kernel_rfl) y

/-- What a later point leaves in the output's block: its pieces read back. -/
def out0_B_6 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x128x640 .f32) (harg8 : arg8.IsWhole) (arg9 : Memref sig .tc .vmem S512x1024 .bf16) (harg9 : arg9.IsWhole) (hc0 : ¬cond0_0 i) (hc1 : cond0_1 i)
    (x0 : Vec F S512x1024 .bf16) (x1 : Vec F S512x1024 .bf16) (x2 : Vec F S512x1024 .bf16) (x3 : Vec F S512x1024 .bf16) (x4 : Vec F S512x1024 .bf16) (x5 : Vec F S8x128x640 .f32) : Vec F S512x1024 .bf16 :=
  VO0_6.read (Elt F) (VO0_6.writes (Elt F) VO0_6.junk (kernelRun0_B c i arg3 harg3 arg4 harg4 arg5 harg5 arg6 harg6 arg7 harg7 arg8 harg8 arg9 harg9 hc0 hc1 x0 x1 x2 x3 x4 x5).1)

/-! ## What the outputs hold after each point -/

/-- What the output's block holds after point `n`: a first point of a sequence has position divisible by 8. -/
def outsAt0 (c : Dev nD) : (n : ℕ) → n < cfg0.N → Vec F S512x1024 .bf16
  | 0, hn => out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      if h1 : 1 ≤ (n + 1) % 8 then
        False.elim (by have hN : n + 1 < 64 := lt_of_lt_of_eq hn (show cfg0.N = 64 from N_0); omega)
      else
        out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : 1 ≤ (n + 1) % 8 then
        out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
      else
        False.elim (by have hN : n + 1 < 64 := lt_of_lt_of_eq hn (show cfg0.N = 64 from N_0); omega)

/-- At a first point of a sequence. -/
theorem outsAt0_A (c : Dev nD) (t : Fin cfg0.N) (h0 : t.val % 8 = 0) (h1 : ¬1 ≤ t.val % 8) :
    outsAt0 m c t.val t.isLt = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_neg h1).trans rfl)

/-- At a later point of a sequence. -/
theorem outsAt0_B (c : Dev nD) (t : Fin cfg0.N) (h0 : ¬t.val % 8 = 0) (h1 : 1 ≤ t.val % 8) :
    outsAt0 m c t.val t.isLt = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t) (iblk m c 5 t) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- What each window's block holds after point `t`: the inputs theirs, the output what the point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt)
  Φ _ := Pipeline.ΦA spec0 c
  q w := Pipeline.shareOf spec0 w
  owed _ := 0

/-- The arrays at the start of the pipeline. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point: the run of a first or of a later point applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  have hN : t.val < 64 := lt_of_lt_of_eq t.isLt (show cfg0.N = 64 from N_0)
  by_cases h0 : t.val % 8 = 0
  · by_cases h1 : 1 ≤ t.val % 8
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      rw [outsAt0_A m c t h0 h1]
      unfold out0_A_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _)
  · by_cases h1 : 1 ≤ t.val % 8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1)], after0_6]
      rw [outsAt0_B m c t h0 h1]
      unfold out0_B_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _)
    · exfalso; omega

/-- The body that point `t` calls. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array ends at what the points wrote back, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The run ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.BandIdeal.Body

end
-- ==== Proof.BandIdealBlocks.lean ====
/-
  The attention over the band: the run, with the result array named.
-/
module

public import proofs.«01_k».proof.Proof.BandIdealFrame
public import Idealize.ShloMosaic.Lib.Pipeline.Value

@[expose] public section

noncomputable section

namespace Cert.BandIdeal.Body

open Cert.BandIdeal Cert.BandIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The result array after the run. -/
theorem post6 (r : PUnit × MemSt nD τ sig (Elt F)) (h : Pipeline.FramePost cfgs (dats m) 0 (V m) r) (c : Dev nD) :
    r.2.mem ((c : Thread nD τ).loc main_v0) = (dats m 0 c).arrAt 6 cfg0.N :=
  (h c).1 6

/-- The argument is unchanged after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 4).trans (((dats m 0 c).arrAt_in 4 rfl _).trans ((A_eq m c 4).trans (V_main_arg0 m c)))

/-- The argument is unchanged after the run. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

/-- The run: the result array is what the points wrote back, the arguments are unchanged. -/
theorem run_blocks : θ_run defs (onTc (τ := τ) (main (F := F))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post6 m r h c,
      kept_main_arg0 m r h c,
      kept_main_arg1 m r h c⟩)
    (run_main m ρ)

end Cert.BandIdeal.Body

end
-- ==== Proof.BandMaths.lean ====
/-
  The mathematics of the banded attention: a softmax of base two over a wide row whose masked scores are `-∞` is the softmax
  of base `e` over the frame the mask leaves.
-/
module

public import Idealize.ShloMosaic.Lib.Pointwise
public import Idealize.ShloMosaic.PureOps.Ideal
public import Idealize.ShloMosaic.Lib.IdealHost

@[expose] public section

noncomputable section

namespace Cert.BandAttn

open Idealize.ShloMosaic

/-- The greatest of `n` scores. -/
def peak {n : Nat} (s : Fin n → EReal) : EReal := Finset.univ.fold max ⊥ s

/-- The mean of the values, each weighted by two to the power of its score below the greatest: the weighted sum is divided. -/
def attend2 {n : Nat} (s v : Fin n → EReal) : EReal :=
  Ideal.div (∑ j, Ideal.exp2 (s j - peak s) * v j) (∑ j, Ideal.exp2 (s j - peak s))

/-- The mean of the values under a softmax of base `e`: each weight is divided. -/
def attendE {n : Nat} (s v : Fin n → EReal) : EReal :=
  ∑ i, Ideal.div (Ideal.exp (s i - peak s)) (∑ k, Ideal.exp (s k - peak s)) * v i

theorem peak_eq_sup {n : Nat} (s : Fin n → EReal) : peak s = Finset.univ.sup s := rfl

/-- Scores out of which those left out are `-∞`, and the frame's own scores: the greatest is the same. -/
theorem peak_frame {n p : Nat} (e : Fin p → Fin n) (s : Fin n → EReal) (h : ∀ j, (¬∃ i, e i = j) → s j = ⊥) :
    peak s = peak fun i => s (e i) := by
  rw [peak_eq_sup, peak_eq_sup]
  refine le_antisymm (Finset.sup_le fun j _ => ?_) (Finset.sup_le fun i _ => Finset.le_sup (f := s) (Finset.mem_univ _))
  by_cases hj : ∃ i, e i = j
  · obtain ⟨i, rfl⟩ := hj
    exact Finset.le_sup (f := fun i => s (e i)) (Finset.mem_univ i)
  · rw [h j hj]
    exact bot_le

/-- A sum whose terms outside the frame are zero is the frame's. -/
theorem sum_frame {n p : Nat} (e : Fin p → Fin n) (he : Function.Injective e) (f : Fin n → EReal)
    (h : ∀ j, (¬∃ i, e i = j) → f j = 0) : ∑ j, f j = ∑ i, f (e i) := by
  refine (Finset.sum_of_injOn e he.injOn (fun _ _ => Finset.mem_coe.mpr (Finset.mem_univ _)) (fun j _ hj => h j ?_) fun _ _ => rfl).symm
  rintro ⟨i, rfl⟩
  exact hj ⟨i, Finset.mem_coe.mpr (Finset.mem_univ _), rfl⟩

/-- A factor that is a non-negative number passes through a sum. -/
theorem sum_mul_real {n : Nat} (f : Fin n → EReal) (c : ℝ) (hc : 0 ≤ c) : (∑ i, f i) * (c : EReal) = ∑ i, f i * (c : EReal) := by
  have key : ∀ S : Finset (Fin n), (∑ i ∈ S, f i) * (c : EReal) = ∑ i ∈ S, f i * (c : EReal) := by
    intro S
    induction S using Finset.induction_on with
    | empty => simp
    | insert a S ha ih =>
      rw [Finset.sum_insert ha, Finset.sum_insert ha, ← ih]
      exact EReal.right_distrib_of_nonneg_of_ne_top (EReal.coe_nonneg.mpr hc) (EReal.coe_ne_top c) _ _
  exact key Finset.univ

/-- A sum of numbers is a number. -/
theorem coe_sum {n : Nat} (g : Fin n → ℝ) : ((∑ i, g i : ℝ) : EReal) = ∑ i, ((g i : ℝ) : EReal) :=
  map_sum (⟨⟨Real.toEReal, EReal.coe_zero⟩, EReal.coe_add⟩ : ℝ →+ EReal) g Finset.univ

/-- A score that is `-∞` or a number. -/
def IsScore (x : EReal) : Prop := x = ⊥ ∨ ∃ a : ℝ, x = a

variable {p : Nat} (s : Fin p → EReal) (hs : ∀ i, IsScore (s i)) (i0 : Fin p) (h0 : ∃ a : ℝ, s i0 = a)

include hs h0 in
/-- The greatest of scores one of which is a number is a number. -/
theorem peak_real : ∃ m : ℝ, peak s = m := by
  obtain ⟨i, -, hi⟩ := Finset.exists_mem_eq_sup (Finset.univ : Finset (Fin p)) ⟨i0, Finset.mem_univ _⟩ s
  rw [peak_eq_sup]
  have hle : s i0 ≤ Finset.univ.sup s := Finset.le_sup (f := s) (Finset.mem_univ i0)
  rcases hs i with h | ⟨a, h⟩
  · obtain ⟨a, ha⟩ := h0
    rw [hi, h, ha] at hle
    exact absurd (le_bot_iff.mp hle) (EReal.coe_ne_bot a)
  · exact ⟨a, by rw [hi, h]⟩

/-- Two to the power of a score less a number is a non-negative number. -/
theorem exp2_real (x : EReal) (hx : IsScore x) (m : ℝ) : ∃ g : ℝ, 0 ≤ g ∧ Ideal.exp2 (x - (m : EReal)) = (g : EReal) := by
  rcases hx with rfl | ⟨a, rfl⟩
  · refine ⟨0, le_rfl, ?_⟩
    rw [EReal.bot_sub, Ideal.exp2_bot, EReal.coe_zero]
  · refine ⟨(2 : ℝ) ^ (a - m), Real.rpow_nonneg (by norm_num) _, ?_⟩
    rw [← EReal.coe_sub, Ideal.exp2_coe]
    rfl

/-- Base `e` and scores in natural units, or base two: the same number. -/
theorem exp_eq_exp2 (x : EReal) (hx : IsScore x) (m : ℝ) :
    Ideal.exp (x * ((Real.log 2 : ℝ) : EReal) - ((m * Real.log 2 : ℝ) : EReal)) = Ideal.exp2 (x - (m : EReal)) := by
  have hl : (0 : ℝ) < Real.log 2 := Real.log_pos (by norm_num)
  rcases hx with rfl | ⟨a, rfl⟩
  · rw [EReal.bot_mul_coe_of_pos hl, EReal.bot_sub, EReal.bot_sub, Ideal.exp_bot, Ideal.exp2_bot]
  · rw [← EReal.coe_mul, ← EReal.coe_sub, ← EReal.coe_sub, Ideal.exp_coe, Ideal.exp2_coe]
    refine congrArg Real.toEReal ((congrArg Real.exp ?_).trans (Real.rpow_def_of_pos (by norm_num : (0 : ℝ) < 2) _).symm)
    ring

/-- The greatest score in natural units. -/
theorem peak_natural : peak (fun i => s i * ((Real.log 2 : ℝ) : EReal)) = peak s * ((Real.log 2 : ℝ) : EReal) := by
  have hl : (0 : ℝ) < Real.log 2 := Real.log_pos (by norm_num)
  rw [peak_eq_sup, peak_eq_sup]
  refine (Finset.comp_sup_eq_sup_comp_of_is_total (fun x : EReal => x * ((Real.log 2 : ℝ) : EReal)) (fun a b hab => ?_)
    (EReal.bot_mul_coe_of_pos hl)).symm
  exact mul_le_mul_of_nonneg_right hab (EReal.coe_nonneg.mpr hl.le)

include hs h0 in
/-- Within a frame: the weighted sum divided, at base two, is the sum under the divided weights, at base `e`. -/
theorem attend_natural (v : Fin p → EReal) : attend2 s v = attendE (fun i => s i * ((Real.log 2 : ℝ) : EReal)) v := by
  obtain ⟨m, hm⟩ := peak_real s hs i0 h0
  choose g hg0 hg using fun i => exp2_real (s i) (hs i) m
  have hpos : 0 < g i0 := by
    obtain ⟨a, ha⟩ := h0
    have := hg i0
    rw [ha, ← EReal.coe_sub, Ideal.exp2_coe] at this
    rw [← EReal.coe_eq_coe_iff.mp this]
    exact Real.rpow_pos_of_pos (by norm_num) _
  have hD : 0 < ∑ i, g i := Finset.sum_pos' (fun i _ => hg0 i) ⟨i0, Finset.mem_univ _, hpos⟩
  have hsum : ∑ i, ((g i : ℝ) : EReal) = ((∑ i, g i : ℝ) : EReal) := (coe_sum g).symm
  unfold attend2 attendE
  rw [peak_natural, hm, ← EReal.coe_mul]
  simp only [exp_eq_exp2 _ (hs _), hg]
  rw [hsum]
  simp only [Ideal.div_coe hD.ne']
  rw [sum_mul_real _ _ (by positivity)]
  exact Finset.sum_congr rfl fun i _ => by rw [mul_right_comm]

/-- The wide row and the frame: the kernel's mean is the softmax's. -/
theorem attend_frame {n : Nat} (e : Fin p → Fin n) (he : Function.Injective e) (S V : Fin n → EReal) (v : Fin p → EReal)
    (hS : ∀ j, (¬∃ i, e i = j) → S j = ⊥) (hs : ∀ i, IsScore (S (e i))) (h0 : ∃ a : ℝ, S (e i0) = a)
    (hv : ∀ i, S (e i) = ⊥ ∨ V (e i) = v i) :
    attend2 S V = attendE (fun i => S (e i) * ((Real.log 2 : ℝ) : EReal)) v := by
  rw [← attend_natural (fun i => S (e i)) hs i0 h0 v]
  obtain ⟨m, hm⟩ := peak_real (fun i => S (e i)) hs i0 h0
  have hP : peak S = (m : EReal) := (peak_frame e S hS).trans hm
  unfold attend2
  rw [hP, hm]
  congr 1
  · rw [sum_frame e he _ fun j hj => by rw [hS j hj, EReal.bot_sub, Ideal.exp2_bot, zero_mul]]
    refine Finset.sum_congr rfl fun i _ => ?_
    rcases hv i with h | h
    · dsimp only
      rw [h, EReal.bot_sub, Ideal.exp2_bot, zero_mul, zero_mul]
    · rw [h]
  · rw [sum_frame e he _ fun j hj => by rw [hS j hj, EReal.bot_sub, Ideal.exp2_bot]]

end Cert.BandAttn

end
-- ==== Proof.BandPay.lean ====
/-
  The banded attention: what one tile of one grid point's work computes, at an index. A tile is one head of 128 rows: its
  queries against a window of 640 keys.
-/
module

public import proofs.«01_k».proof.Proof.BandMaths
public import proofs.«01_k».proof.Proof.Gen.BandIdeal.Skeleton
public import Idealize.ShloMosaic.Lib.Pointwise
public import Idealize.ShloMosaic.Lib.ValueIdx
public import Idealize.ShloMosaic.Lib.StableHlo.Predicate
public import Idealize.ShloMosaic.Lib.Pipeline.ValueKit
public import Idealize.ShloMosaic.Lib.Pipeline.ReadBack

@[expose] public section

set_option maxRecDepth 16384

noncomputable section

namespace Cert.BandAttn

open Idealize.ShloMosaic Idealize.ShloMosaic.TcCoe Idealize.SL.Sem
open Cert.BandIdeal Cert.BandIdeal.Gen

/-- The column of each entry, and its row. -/
def colOf : IVec S128x640 32 := iota .tc S128x640 32 [1] iota_S128x640_d1_w32
def rowNo : IVec S128x640 32 := iota .tc S128x640 32 [0] iota_S128x640_d0_w32

/-- The first column of a row's frame: 64 times the row divided by 64, rounded down. -/
def frameStart : IVec S128x640 32 :=
  muli (select (andi (cmpi .ne (subi (extui 32 (cmpi .sgt rowNo (broadcast S128x640 0#32)) natLt_1_32)
      (extui 32 (cmpi .slt rowNo (broadcast S128x640 0#32)) natLt_1_32)) (broadcast S128x640 (Scalar.subi (Scalar.extui (Scalar.cmpi .sgt 64#32 0#32)) (Scalar.extui (Scalar.cmpi .slt 64#32 0#32)))))
      (cmpi .ne (remsi rowNo (broadcast S128x640 64#32)) (broadcast S128x640 0#32)))
    (subi (divsi rowNo (broadcast S128x640 64#32)) (broadcast S128x640 1#32))
    (divsi rowNo (broadcast S128x640 64#32))) (broadcast S128x640 64#32)

/-- The mask of the frame: 576 columns from its first. -/
def inFrame : IVec S128x640 1 :=
  andi (cmpi .sge colOf frameStart) (cmpi .slt colOf (addi frameStart (broadcast S128x640 576#32)))

/-- The number the masked scores are set to. -/
def masked : Ideal .f32 := Named.named κ "mask" 0xF149F2CA#32

/-- A later point's mask, put on the first and the last 128 columns, where the frame can end. -/
def laterMask (s : FVec Ideal S128x640 .f32) : FVec Ideal S128x640 .f32 :=
  concatenate S128x640 1
    [⟨S128x128, select (extractStridedSlice S128x128 ![0, 0] inFrame slices_S128x640_o0_0_S128x128)
        (extractStridedSlice S128x128 ![0, 0] s slices_S128x640_o0_0_S128x128) (broadcast S128x128 masked)⟩,
     ⟨S128x384, extractStridedSlice S128x384 ![0, 128] s slices_S128x640_o0_128_S128x384⟩,
     ⟨S128x128, select (extractStridedSlice S128x128 ![0, 512] inFrame slices_S128x640_o0_512_S128x128)
        (extractStridedSlice S128x128 ![0, 512] s slices_S128x640_o0_512_S128x128) (broadcast S128x128 masked)⟩]
    concatenates_S128x128_S128x384_S128x128_S128x640_d1

/-- A first point's mask: of the frame, what does not lie before the sequence; the window starts at column `o`. -/
def firstMask (o : BitVec 32) (s : FVec Ideal S128x640 .f32) : FVec Ideal S128x640 .f32 :=
  select (andi inFrame (cmpi .sge (addi colOf (broadcast S128x640 o)) (broadcast S128x640 512#32))) s (broadcast S128x640 masked)

/-- The keys (or the values) of the rows before and of the block's rows, one above the other. -/
def stacked (p q : Vec Ideal S512x128 .bf16) : FVec Ideal S1024x128 .bf16 :=
  concatenate S1024x128 0 [⟨S512x128, p⟩, ⟨S512x128, q⟩] concatenates_S512x128_S512x128_S1024x128_d0

/-- The scores of a tile. -/
def scores (q : Vec Ideal S128x128 .bf16) (k : FVec Ideal S640x128 .bf16) (b : Vec Ideal S1x128x640 .f32) : FVec Ideal S128x640 .f32 :=
  addf (matmul (φ₁ := .bf16) dot_S128x128_S640x128_S128x640_1_1_0_0_n_n none q k (constant S128x640 .f32 0x00000000#32))
    (shapeCast S128x640 b shapeCasts_S1x128x640_S128x640)

/-- Two to the power of the scores below the row's greatest. -/
def weights (s : FVec Ideal S128x640 .f32) : FVec Ideal S128x640 .f32 :=
  exp2 (subf s (broadcastTo S128x640 (shapeCast S128x1
    (multiReduction .maximumf [1] S128 s 0xFF800000#32 reduces_S128x640_S128 (.inl rfl) rfl) shapeCasts_S128_S128x1)
    broadcasts_S128x1_S128x640))

/-- The weighted mean of the values. -/
def mean (s : FVec Ideal S128x640 .f32) (v : FVec Ideal S640x128 .bf16) : FVec Ideal S128x128 .bf16 :=
  truncf .bf16 (divf (matmul dot_S128x640_S640x128_S128x128_1_0_0_1_n_n none (truncf .bf16 (weights s) bitsLt_bf16_f32) v
      (constant S128x128 .f32 0x00000000#32))
    (broadcastTo S128x128 (shapeCast S128x1
      (multiReduction .add [1] S128 (weights s) 0x00000000#32 reduces_S128x640_S128 (.inl rfl) rfl) shapeCasts_S128_S128x1)
      broadcasts_S128x1_S128x128)) bitsLt_bf16_f32

theorem frameStart_apply (a : Fin 128) (j : Fin 640) : frameStart (ix2 a j) = BitVec.ofNat 32 (a.val / 64 * 64) := by
  unfold frameStart rowNo
  pointwise
  revert a
  decide +kernel

theorem masked_eq : masked = (⊥ : EReal) := rfl

/-- The bits the greatest scores start from are minus infinity's. -/
theorem negInf_eq : Ideal.ofBits .f32 0xFF800000#32 = (⊥ : EReal) := by
  simp [Ideal.ofBits, Ideal.ieee]

theorem weights_apply (s : FVec Ideal S128x640 .f32) (a : Fin 128) (j : Fin 640) :
    weights s (ix2 a j) = Ideal.exp2 (s (ix2 a j) - peak fun j => s (ix2 a j)) := by
  unfold weights peak
  rw [← negInf_eq]
  pointwise
  rfl

theorem mean_apply (s : FVec Ideal S128x640 .f32) (v : FVec Ideal S640x128 .bf16) (a l : Fin 128) :
    mean s v (ix2 a l) = attend2 (fun j => s (ix2 a j)) fun j => v (ix2 j l) := by
  unfold mean attend2
  pointwise
  simp only [weights_apply]

theorem scores_apply (q : Vec Ideal S128x128 .bf16) (k : FVec Ideal S640x128 .bf16) (b : Vec Ideal S1x128x640 .f32) (a : Fin 128) (j : Fin 640) :
    scores q k b (ix2 a j) = (∑ e : Fin 128, q (ix2 a e) * k (ix2 j e)) + b (ix3 0 a j) := by
  unfold scores
  pointwise

/-- Two conditions together. -/
theorem andi_iff (x y : BitVec 1) : IntOp.andi x y = 1#1 ↔ x = 1#1 ∧ y = 1#1 := by
  revert x y
  decide

/-- A choice by a bit is the choice by what the bit says. -/
theorem select_ite {α : Type} (b : BitVec 1) (P : Prop) [Decidable P] (h : b = 1#1 ↔ P) (x y : α) :
    Scalar.select b x y = if P then x else y := by
  by_cases hp : P
  · rw [if_pos hp]
    exact if_pos (h.mpr hp)
  · rw [if_neg hp]
    exact if_neg fun hb => hp (h.mp hb)

theorem inFrame_apply (a : Fin 128) (j : Fin 640) : inFrame (ix2 a j) = 1#1 ↔ a.val / 64 * 64 ≤ j.val ∧ j.val < a.val / 64 * 64 + 576 := by
  unfold inFrame colOf
  pointwise [frameStart_apply]
  have ha : a.val / 64 * 64 < 128 := by omega
  have hj : (BitVec.ofNat 32 j.val).toNat = j.val := by rw [BitVec.toNat_ofNat]; omega
  have hs : (BitVec.ofNat 32 (a.val / 64 * 64)).toNat = a.val / 64 * 64 := by rw [BitVec.toNat_ofNat]; omega
  have hl : (IntOp.addi (BitVec.ofNat 32 (a.val / 64 * 64)) 576#32).toNat = a.val / 64 * 64 + 576 := by
    show (BitVec.ofNat 32 (a.val / 64 * 64) + 576#32).toNat = _
    rw [BitVec.toNat_add, hs]
    show (a.val / 64 * 64 + 576) % 2 ^ 32 = _
    omega
  rw [andi_iff, StableHlo.Predicate.sge_iff_toNat (by omega) (by omega), StableHlo.Predicate.slt_iff_toNat (by omega) (by omega), hj, hs, hl]

theorem laterMask_apply (s : FVec Ideal S128x640 .f32) (a : Fin 128) (j : Fin 640) :
    laterMask s (ix2 a j) = if a.val / 64 * 64 ≤ j.val ∧ j.val < a.val / 64 * 64 + 576 then s (ix2 a j) else ⊥ := by
  unfold laterMask
  pointwise
  have ha : a.val / 64 * 64 < 128 := by omega
  have hsel : ∀ j : Fin 640, Scalar.select (inFrame (ix2 a j)) (s (ix2 a j)) masked
      = if a.val / 64 * 64 ≤ j.val ∧ j.val < a.val / 64 * 64 + 576 then s (ix2 a j) else ⊥ :=
    fun j => select_ite _ _ (inFrame_apply a j) _ _
  split
  · exact hsel j
  · rename_i h1
    split
    · rename_i h2
      refine Eq.trans ?_ (if_pos (by omega)).symm
      exact congrArg (fun k => s (ix2 a k)) (Fin.ext (by show 128 + (j.val - 128) = j.val; omega))
    · rename_i h2
      have hj : (⟨512 + (j.val - 128 - 384), by omega⟩ : Fin 640) = j := Fin.ext (by show 512 + (j.val - 128 - 384) = j.val; omega)
      exact (congrArg (fun j => Scalar.select (inFrame (ix2 a j)) (s (ix2 a j)) masked) hj).trans (hsel j)

theorem firstMask_apply (o : Nat) (ho : o ≤ 384) (s : FVec Ideal S128x640 .f32) (a : Fin 128) (j : Fin 640) :
    firstMask (BitVec.ofNat 32 o) s (ix2 a j)
      = if (a.val / 64 * 64 ≤ j.val ∧ j.val < a.val / 64 * 64 + 576) ∧ 512 ≤ j.val + o then s (ix2 a j) else ⊥ := by
  unfold firstMask colOf
  pointwise
  have hj : (IntOp.addi (BitVec.ofNat 32 j.val) (BitVec.ofNat 32 o)).toNat = j.val + o := by
    show (BitVec.ofNat 32 j.val + BitVec.ofNat 32 o).toNat = _
    rw [BitVec.toNat_add, BitVec.toNat_ofNat, BitVec.toNat_ofNat]
    omega
  exact select_ite _ _ (by rw [andi_iff, inFrame_apply, StableHlo.Predicate.sge_iff_toNat (by omega) (by decide), hj]; rfl) _ _

theorem stacked_apply (p q : Vec Ideal S512x128 .bf16) (n : Fin 1024) (e : Fin 128) :
    stacked p q (ix2 n e) = if h : n.val < 512 then p (ix2 ⟨n.val, h⟩ e) else q (ix2 ⟨n.val - 512, by omega⟩ e) := by
  unfold stacked
  pointwise

variable (x0 x1 x2 x3 x4 : Vec Ideal S512x1024 .bf16) (x5 : Vec Ideal S8x128x640 .f32)

/-- The entry of the rows before and the block's rows, one above the other. -/
def above (p q : Vec Ideal S512x1024 .bf16) (n : Fin 1024) (e : Fin 1024) : EReal :=
  if h : n.val < 512 then p (ix2 ⟨n.val, h⟩ e) else q (ix2 ⟨n.val - 512, by omega⟩ e)

/-- The first row of the window of row `r`'s tile, and the window's row `j`. -/
def winRow (r : Fin 512) (j : Fin 640) : Fin 1024 := ⟨r.val / 128 * 128 + j.val, by omega⟩

/-- Row `r`'s score at the window's row `j`, for the head of column `l`. -/
def blockScore (r : Fin 512) (l : Fin 1024) (j : Fin 640) : EReal :=
  (∑ e : Fin 128, x0 (ix2 r ⟨l.val / 128 * 128 + e.val, by omega⟩) * above x1 x2 (winRow r j) ⟨l.val / 128 * 128 + e.val, by omega⟩)
    + x5 (ix3 ⟨l.val / 128, by omega⟩ ⟨r.val % 128, by omega⟩ j)

/-- Whether row `r`'s frame holds the window's row `j`. -/
def framed (r : Fin 512) (j : Fin 640) : Prop := r.val % 128 / 64 * 64 ≤ j.val ∧ j.val < r.val % 128 / 64 * 64 + 576

instance (r : Fin 512) (j : Fin 640) : Decidable (framed r j) := by unfold framed; infer_instance

/-- A rectangle read out of a block, at an index. -/
theorem ld_apply {R C : Nat} (v : Vec Ideal S512x1024 .bf16) (o0 o1 : Nat)
    (hb : ∀ a, (![o0, o1] : Fin 2 → Nat) a + (![R, C] : Fin 2 → Nat) a ≤ S512x1024.size a) (a : Fin R) (b : Fin C) (r : Fin 512)
    (l : Fin 1024) (h0 : r.val = o0 + a.val) (h1 : l.val = o1 + b.val) :
    View.ld v (Rect.unit ![o0, o1] ![R, C] hb) (ix2 a b) = v (ix2 r l) :=
  View.ld_unit_apply_of _ _ _ _ _ _ fun j => by
    match j with
    | ⟨0, _⟩ => exact h0
    | ⟨1, _⟩ => exact h1

/-- One head's biases read out of the block's. -/
theorem ld_bias (v : Vec Ideal S8x128x640 .f32) (o : Nat)
    (hb : ∀ a, (![o, 0, 0] : Fin 3 → Nat) a + (![1, 128, 640] : Fin 3 → Nat) a ≤ S8x128x640.size a) (a : Fin 128) (j : Fin 640)
    (g : Fin 8) (h : g.val = o) : View.ld v (Rect.unit ![o, 0, 0] ![1, 128, 640] hb) (ix3 0 a j) = v (ix3 g a j) :=
  View.ld_unit_apply_of _ _ _ _ _ _ fun i => by
    match i with
    | ⟨0, _⟩ => exact h
    | ⟨1, _⟩ => exact (Nat.zero_add _).symm
    | ⟨2, _⟩ => exact (Nat.zero_add _).symm

/-- The window of a tile, read out of the rows before and the block's rows. -/
def window (p q : Vec Ideal S512x1024 .bf16) (o0 o1 : Nat)
    (hb : ∀ a, (![0, o1] : Fin 2 → Nat) a + (![512, 128] : Fin 2 → Nat) a ≤ S512x1024.size a) (hs : S1024x128.Slices ![o0, 0] S640x128) :
    FVec Ideal S640x128 .bf16 :=
  extractStridedSlice S640x128 ![o0, 0] (stacked (View.ld p (Rect.unit ![0, o1] ![512, 128] hb))
    (View.ld q (Rect.unit ![0, o1] ![512, 128] hb))) hs

theorem window_apply (p q : Vec Ideal S512x1024 .bf16) (o0 o1 : Nat)
    (hb : ∀ a, (![0, o1] : Fin 2 → Nat) a + (![512, 128] : Fin 2 → Nat) a ≤ S512x1024.size a) (hs : S1024x128.Slices ![o0, 0] S640x128)
    (j : Fin 640) (e : Fin 128) (n : Fin 1024) (l : Fin 1024) (h0 : n.val = o0 + j.val) (h1 : l.val = o1 + e.val) :
    window p q o0 o1 hb hs (ix2 j e) = above p q n l := by
  have hw : window p q o0 o1 hb hs (ix2 j e) = stacked (View.ld p (Rect.unit ![0, o1] ![512, 128] hb))
      (View.ld q (Rect.unit ![0, o1] ![512, 128] hb)) (ix2 n e) := by
    unfold window
    pointwise
    exact congrArg (fun n => stacked _ _ (ix2 n e)) (Fin.ext h0.symm)
  rw [hw, stacked_apply]
  unfold above
  by_cases h : n.val < 512
  · rw [dif_pos h, dif_pos h]
    exact ld_apply p 0 o1 hb _ e _ l (Nat.zero_add _).symm h1
  · rw [dif_neg h, dif_neg h]
    exact ld_apply q 0 o1 hb _ e _ l (Nat.zero_add _).symm h1

/-- A tile's scores are the block's. -/
theorem tile_score (o0 o1 g : Nat) (h0 : o0 % 128 = 0) (h1 : o1 = g * 128)
    (hb0 : ∀ a, (![o0, o1] : Fin 2 → Nat) a + (![128, 128] : Fin 2 → Nat) a ≤ S512x1024.size a)
    (hb : ∀ a, (![0, o1] : Fin 2 → Nat) a + (![512, 128] : Fin 2 → Nat) a ≤ S512x1024.size a) (hs : S1024x128.Slices ![o0, 0] S640x128)
    (hb5 : ∀ a, (![g, 0, 0] : Fin 3 → Nat) a + (![1, 128, 640] : Fin 3 → Nat) a ≤ S8x128x640.size a)
    (a b : Fin 128) (j : Fin 640) (r : Fin 512) (l : Fin 1024) (hr : r.val = o0 + a.val) (hl : l.val = o1 + b.val) :
    scores (View.ld x0 (Rect.unit ![o0, o1] ![128, 128] hb0)) (window x1 x2 o0 o1 hb hs)
        (View.ld x5 (Rect.unit ![g, 0, 0] ![1, 128, 640] hb5)) (ix2 a j) = blockScore x0 x1 x2 x5 r l j := by
  rw [scores_apply]
  unfold blockScore
  congr 1
  · refine Finset.sum_congr rfl fun e _ => ?_
    congr 1
    · exact ld_apply x0 o0 o1 hb0 a e r _ hr (by show l.val / 128 * 128 + e.val = _; omega)
    · exact window_apply x1 x2 o0 o1 hb hs j e _ _ (by show r.val / 128 * 128 + j.val = _; omega)
        (by show l.val / 128 * 128 + e.val = _; omega)
  · refine (ld_bias x5 g hb5 a j ⟨l.val / 128, by omega⟩ (by show l.val / 128 = g; omega)).trans ?_
    exact congrArg (fun i => x5 (ix3 _ i j)) (Fin.ext (by show a.val = r.val % 128; omega))

/-- A later point's tile: the attention over the frame. -/
theorem later_tile (o0 o1 : Nat) (i : S128x128.Idx) (r : Fin 512) (l : Fin 1024) (hr : r.val = o0 + (i 0).val)
    (hl : l.val = o1 + (i 1).val) (h0 : o0 % 128 = 0) (h1 : o1 % 128 = 0)
    (hb0 : ∀ a, (![o0, o1] : Fin 2 → Nat) a + (![128, 128] : Fin 2 → Nat) a ≤ S512x1024.size a)
    (hb : ∀ a, (![0, o1] : Fin 2 → Nat) a + (![512, 128] : Fin 2 → Nat) a ≤ S512x1024.size a) (hs : S1024x128.Slices ![o0, 0] S640x128)
    (hb5 : ∀ a, (![o1 / 128, 0, 0] : Fin 3 → Nat) a + (![1, 128, 640] : Fin 3 → Nat) a ≤ S8x128x640.size a) :
    mean (laterMask (scores (View.ld x0 (Rect.unit ![o0, o1] ![128, 128] hb0)) (window x1 x2 o0 o1 hb hs)
        (View.ld x5 (Rect.unit ![o1 / 128, 0, 0] ![1, 128, 640] hb5)))) (window x3 x4 o0 o1 hb hs) i
      = attend2 (fun j => if framed r j then blockScore x0 x1 x2 x5 r l j else ⊥) fun j => above x3 x4 (winRow r j) l := by
  obtain ⟨a, b, rfl⟩ : ∃ (a b : Fin 128), i = ix2 a b := ⟨i 0, i 1, eq_ix2 i⟩
  replace hr : r.val = o0 + a.val := hr
  replace hl : l.val = o1 + b.val := hl
  rw [mean_apply]
  congr 1
  · funext j
    rw [laterMask_apply, tile_score x0 x1 x2 x5 o0 o1 (o1 / 128) h0 (by omega) hb0 hb hs hb5 a b j r l hr hl]
    have ha : a.val = r.val % 128 := by omega
    unfold framed
    rw [ha]
  · funext j
    exact window_apply x3 x4 o0 o1 hb hs j b _ _ (by show r.val / 128 * 128 + j.val = _; omega) hl

/-- A first point's tile: the attention over what of the frame does not lie before the sequence. -/
theorem first_tile (o0 o1 : Nat) (i : S128x128.Idx) (r : Fin 512) (l : Fin 1024) (hr : r.val = o0 + (i 0).val)
    (hl : l.val = o1 + (i 1).val) (h0 : o0 % 128 = 0) (h1 : o1 % 128 = 0)
    (hb0 : ∀ a, (![o0, o1] : Fin 2 → Nat) a + (![128, 128] : Fin 2 → Nat) a ≤ S512x1024.size a)
    (hb : ∀ a, (![0, o1] : Fin 2 → Nat) a + (![512, 128] : Fin 2 → Nat) a ≤ S512x1024.size a) (hs : S1024x128.Slices ![o0, 0] S640x128)
    (hb5 : ∀ a, (![o1 / 128, 0, 0] : Fin 3 → Nat) a + (![1, 128, 640] : Fin 3 → Nat) a ≤ S8x128x640.size a) :
    mean (firstMask (BitVec.ofNat 32 o0) (scores (View.ld x0 (Rect.unit ![o0, o1] ![128, 128] hb0)) (window x1 x2 o0 o1 hb hs)
        (View.ld x5 (Rect.unit ![o1 / 128, 0, 0] ![1, 128, 640] hb5)))) (window x3 x4 o0 o1 hb hs) i
      = attend2 (fun j => if framed r j ∧ 512 ≤ (winRow r j).val then blockScore x0 x1 x2 x5 r l j else ⊥)
          fun j => above x3 x4 (winRow r j) l := by
  obtain ⟨a, b, rfl⟩ : ∃ (a b : Fin 128), i = ix2 a b := ⟨i 0, i 1, eq_ix2 i⟩
  replace hr : r.val = o0 + a.val := hr
  replace hl : l.val = o1 + b.val := hl
  rw [mean_apply]
  congr 1
  · funext j
    rw [firstMask_apply o0 (by omega), tile_score x0 x1 x2 x5 o0 o1 (o1 / 128) h0 (by omega) hb0 hb hs hb5 a b j r l hr hl]
    have ha : a.val = r.val % 128 := by omega
    have hw : (winRow r j).val = j.val + o0 := by show r.val / 128 * 128 + j.val = _; omega
    unfold framed
    rw [ha, hw]
  · funext j
    exact window_apply x3 x4 o0 o1 hb hs j b _ _ (by show r.val / 128 * 128 + j.val = _; omega) hl

end Cert.BandAttn

end
-- ==== Proof.BandTiles.lean ====
/-
  The banded attention: what one grid point leaves in the output block, over what the input windows hold.
-/
module

public import proofs.«01_k».proof.Proof.BandIdealBlocks
public import proofs.«01_k».proof.Proof.BandPay
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

namespace Cert.BandAttn

open Idealize.ShloMosaic Idealize.ShloMosaic.TcCoe Idealize.SL.Sem
open Idealize.ShloMosaic.Pipeline (Dat)
open Cert.BandIdeal Cert.BandIdeal.Gen Cert.BandIdeal.Body

variable (m : (ℓ : Loc nD τ sig) → Buf (Elt Ideal) ℓ) (c : Dev nD) (t : Fin cfg0.N)

/-- A later point of a sequence leaves the attention over the frame. -/
theorem later_out (h0 : 1 ≤ t.val % 8) (r : Fin 512) (l : Fin 1024) : (outsAt0 m c t.val t.isLt) (ix2 r l)
    = attend2 (fun j => if framed r j then blockScore (iblk m c 0 t) (iblk m c 1 t) (iblk m c 2 t) (iblk m c 5 t) r l j else ⊥)
        fun j => above (iblk m c 3 t) (iblk m c 4 t) (winRow r j) l := by
  rw [outsAt0_B m c t (by omega) h0]
  generalize iblk m c 0 t = x0
  generalize iblk m c 1 t = x1
  generalize iblk m c 2 t = x2
  generalize iblk m c 3 t = x3
  generalize iblk m c 4 t = x4
  generalize iblk m c 5 t = x5
  frame_out
  generalize e1 : View.read (Elt Ideal) (ms0_1 t).view (Memref.IsWhole.unread _ x1) = z1
  obtain rfl : x1 = z1 := (Memref.IsWhole.read_unread _ _).symm.trans e1
  generalize e2 : View.read (Elt Ideal) (ms0_2 t).view (Memref.IsWhole.unread _ x2) = z2
  obtain rfl : x2 = z2 := (Memref.IsWhole.read_unread _ _).symm.trans e2
  generalize e3 : View.read (Elt Ideal) (ms0_3 t).view (Memref.IsWhole.unread _ x3) = z3
  obtain rfl : x3 = z3 := (Memref.IsWhole.read_unread _ _).symm.trans e3
  generalize e4 : View.read (Elt Ideal) (ms0_4 t).view (Memref.IsWhole.unread _ x4) = z4
  obtain rfl : x4 = z4 := (Memref.IsWhole.read_unread _ _).symm.trans e4
  clear e1 e2 e3 e4
  generalize hy : ix2 r l = y
  canon_tiles x h
  all_goals subst hy
  all_goals
    refine Eq.trans ?_ (later_tile x0 x1 x2 x3 x4 x5 _ _ x r l
      (by first | exact h0 | exact h0.trans (Nat.zero_add _).symm) (by first | exact h1 | exact h1.trans (Nat.zero_add _).symm) rfl rfl
      (by decide) (by decide) (by decide) (by decide))
    refine congrFun (?_ : _ = _) x
    unfold_payloads
    unfold mean weights laterMask window scores stacked
    rfl

/-- A first point of a sequence leaves the attention over what of the frame does not lie before the sequence. -/
theorem first_out (h0 : t.val % 8 = 0) (r : Fin 512) (l : Fin 1024) : (outsAt0 m c t.val t.isLt) (ix2 r l)
    = attend2 (fun j => if framed r j ∧ 512 ≤ (winRow r j).val then blockScore (iblk m c 0 t) (iblk m c 1 t) (iblk m c 2 t) (iblk m c 5 t) r l j else ⊥)
        fun j => above (iblk m c 3 t) (iblk m c 4 t) (winRow r j) l := by
  rw [outsAt0_A m c t h0 (by omega)]
  generalize iblk m c 0 t = x0
  generalize iblk m c 1 t = x1
  generalize iblk m c 2 t = x2
  generalize iblk m c 3 t = x3
  generalize iblk m c 4 t = x4
  generalize iblk m c 5 t = x5
  frame_out
  generalize e1 : View.read (Elt Ideal) (ms0_1 t).view (Memref.IsWhole.unread _ x1) = z1
  obtain rfl : x1 = z1 := (Memref.IsWhole.read_unread _ _).symm.trans e1
  generalize e2 : View.read (Elt Ideal) (ms0_2 t).view (Memref.IsWhole.unread _ x2) = z2
  obtain rfl : x2 = z2 := (Memref.IsWhole.read_unread _ _).symm.trans e2
  generalize e3 : View.read (Elt Ideal) (ms0_3 t).view (Memref.IsWhole.unread _ x3) = z3
  obtain rfl : x3 = z3 := (Memref.IsWhole.read_unread _ _).symm.trans e3
  generalize e4 : View.read (Elt Ideal) (ms0_4 t).view (Memref.IsWhole.unread _ x4) = z4
  obtain rfl : x4 = z4 := (Memref.IsWhole.read_unread _ _).symm.trans e4
  clear e1 e2 e3 e4
  generalize hy : ix2 r l = y
  canon_tiles x h
  all_goals subst hy
  all_goals
    refine Eq.trans ?_ (first_tile x0 x1 x2 x3 x4 x5 _ _ x r l
      (by first | exact h0 | exact h0.trans (Nat.zero_add _).symm) (by first | exact h1 | exact h1.trans (Nat.zero_add _).symm) rfl rfl
      (by decide) (by decide) (by decide) (by decide))
    refine congrFun (?_ : _ = _) x
    unfold_payloads
    unfold mean weights firstMask window scores stacked
    rfl

end Cert.BandAttn

end
-- ==== Proof.BandValue.lean ====
/-
  The banded attention: what the result array holds after the run. Each row's result is the softmax attention over its frame:
  the 64 rows of its own chunk and the 512 rows before them, of the same sequence.
-/
module

public import proofs.«01_k».proof.Proof.BandTiles

@[expose] public section

set_option maxRecDepth 16384

noncomputable section

namespace Cert.BandAttn

open Idealize.ShloMosaic Idealize.ShloMosaic.TcCoe Idealize.SL.Sem
open Idealize.ShloMosaic.Pipeline (Dat)
open Cert.BandIdeal Cert.BandIdeal.Gen Cert.BandIdeal.Body

/-- Whether entry `i` of row `R`'s frame lies within the sequence, which has 4096 rows. -/
def within (R : Fin 16384) (i : Fin 576) : Prop := 512 ≤ R.val % 4096 / 64 * 64 + i.val

instance (R : Fin 16384) (i : Fin 576) : Decidable (within R i) := by unfold within; infer_instance

/-- The row that entry `i` of row `R`'s frame is. -/
def frameRow (R : Fin 16384) (i : Fin 576) : Fin 16384 := ⟨R.val / 4096 * 4096 + (R.val % 4096 / 64 * 64 + i.val - 512), by omega⟩

/-- Row `R`'s score against entry `i` of its frame, for the head of column `C`. -/
def score (qkv : FVec Ideal S16384x6144 .bf16) (tb : FVec Ideal S16x128x640 .f32) (R : Fin 16384) (C : Fin 2048) (i : Fin 576) : EReal :=
  (∑ e : Fin 128, qkv (ix2 R ⟨C.val / 128 * 128 + e.val, by omega⟩) * qkv (ix2 (frameRow R i) ⟨2048 + (C.val / 128 * 128 + e.val), by omega⟩))
    + tb (ix3 ⟨C.val / 128, by omega⟩ ⟨R.val % 128, by omega⟩ ⟨R.val % 128 / 64 * 64 + i.val, by omega⟩)

/-- The score, minus infinity outside the sequence. -/
def kept (qkv : FVec Ideal S16384x6144 .bf16) (tb : FVec Ideal S16x128x640 .f32) (R : Fin 16384) (C : Fin 2048) (i : Fin 576) : EReal :=
  if within R i then score qkv tb R C i else ⊥

/-- The value at entry `i` of row `R`'s frame, zero outside the sequence. -/
def value (qkv : FVec Ideal S16384x6144 .bf16) (R : Fin 16384) (C : Fin 2048) (i : Fin 576) : EReal :=
  if within R i then qkv (ix2 (frameRow R i) ⟨4096 + C.val, by omega⟩) else 0

/-- The result: the softmax of the kept scores, in natural units, over the values. -/
def result (qkv : FVec Ideal S16384x6144 .bf16) (tb : FVec Ideal S16x128x640 .f32) : FVec Ideal S16384x2048 .bf16 := fun i =>
  attendE (fun k => kept qkv tb (i 0) (i 1) k * ((Real.log 2 : ℝ) : EReal)) (value qkv (i 0) (i 1))

/-- The queries, the keys and the biases are numbers. -/
def Finite (qkv : FVec Ideal S16384x6144 .bf16) (tb : FVec Ideal S16x128x640 .f32) : Prop :=
  (∀ (R : Fin 16384) (C : Fin 6144), C.val < 4096 → ∃ a : ℝ, qkv (ix2 R C) = (a : EReal)) ∧ ∀ i, ∃ a : ℝ, tb i = (a : EReal)

theorem score_real (qkv : FVec Ideal S16384x6144 .bf16) (tb : FVec Ideal S16x128x640 .f32) (hf : Finite qkv tb) (R : Fin 16384)
    (C : Fin 2048) (i : Fin 576) : ∃ a : ℝ, score qkv tb R C i = (a : EReal) := by
  choose q hq using fun e : Fin 128 => hf.1 R ⟨C.val / 128 * 128 + e.val, by omega⟩ (by show C.val / 128 * 128 + e.val < 4096; omega)
  choose k hk using fun e : Fin 128 => hf.1 (frameRow R i) ⟨2048 + (C.val / 128 * 128 + e.val), by omega⟩ (by show 2048 + (C.val / 128 * 128 + e.val) < 4096; omega)
  obtain ⟨b, hb⟩ := hf.2 (ix3 ⟨C.val / 128, by omega⟩ ⟨R.val % 128, by omega⟩ ⟨R.val % 128 / 64 * 64 + i.val, by omega⟩)
  refine ⟨(∑ e, q e * k e) + b, ?_⟩
  unfold score
  simp only [hq, hk, hb]
  rw [EReal.coe_add, coe_sum]
  simp only [EReal.coe_mul]

variable (m : (ℓ : Loc nD τ sig) → Buf (Elt Ideal) ℓ) (ρ : Dev nD → PrngReg) (c : Dev nD) (t : Fin cfg0.N)

/-- The arguments, read off the memory. -/
abbrev argQkv : FVec Ideal S16384x6144 .bf16 := m ((c : Thread nD τ).loc main_arg0)
abbrev argTable : FVec Ideal S16x128x640 .f32 := m ((c : Thread nD τ).loc main_arg1)

/-- Where the windows lie at point `t`: sequence `t / 16`, half of the heads `t / 8 % 2`, block of rows `t % 8`. -/
theorem idx : ∀ t : Fin cfg0.N, win0_0.index t = ![t.val / 16 * 8 + t.val % 8, t.val / 8 % 2]
    ∧ win0_1.index t = ![t.val / 16 * 8 + (t.val % 8 - 1), 2 + t.val / 8 % 2] ∧ win0_2.index t = ![t.val / 16 * 8 + t.val % 8, 2 + t.val / 8 % 2]
    ∧ win0_3.index t = ![t.val / 16 * 8 + (t.val % 8 - 1), 4 + t.val / 8 % 2] ∧ win0_4.index t = ![t.val / 16 * 8 + t.val % 8, 4 + t.val / 8 % 2]
    ∧ win0_5.index t = ![t.val / 8 % 2, 0, 0] ∧ win0_6.index t = ![t.val / 16 * 8 + t.val % 8, t.val / 8 % 2] :=
  (by decide +kernel : ∀ t : Fin grid0.N, win0_0.index t = ![t.val / 16 * 8 + t.val % 8, t.val / 8 % 2]
    ∧ win0_1.index t = ![t.val / 16 * 8 + (t.val % 8 - 1), 2 + t.val / 8 % 2] ∧ win0_2.index t = ![t.val / 16 * 8 + t.val % 8, 2 + t.val / 8 % 2]
    ∧ win0_3.index t = ![t.val / 16 * 8 + (t.val % 8 - 1), 4 + t.val / 8 % 2] ∧ win0_4.index t = ![t.val / 16 * 8 + t.val % 8, 4 + t.val / 8 % 2]
    ∧ win0_5.index t = ![t.val / 8 % 2, 0, 0] ∧ win0_6.index t = ![t.val / 16 * 8 + t.val % 8, t.val / 8 % 2])

theorem N_eq : cfg0.N = 64 := by decide +kernel

/-- The row and the column of the array that row `r` and column `l` of point `t`'s block are. -/
def outRow (r : Fin 512) : Fin 16384 := ⟨(t.val / 16 * 8 + t.val % 8) * 512 + r.val, by have := t.isLt; have := N_eq; omega⟩
def outCol (l : Fin 1024) : Fin 2048 := ⟨t.val / 8 % 2 * 1024 + l.val, by omega⟩

theorem blk_q (r : Fin 512) (l : Fin 1024) : iblk m c 0 t (ix2 r l) = argQkv m c (ix2 (outRow t r) ⟨(outCol t l).val, by omega⟩) := by
  obtain ⟨h, -⟩ := idx t
  unfold argQkv outRow outCol
  blk_point [iblk, V, h]

theorem blk_table (g : Fin 8) (a : Fin 128) (j : Fin 640) :
    iblk m c 5 t (ix3 g a j) = argTable m c (ix3 ⟨t.val / 8 % 2 * 8 + g.val, by omega⟩ a j) := by
  obtain ⟨-, -, -, -, -, h, -⟩ := idx t
  unfold argTable
  blk_point [iblk, V, h]

/-- The row of the array that row `n` of the rows before and the block's rows is. -/
def pastRow (n : Fin 1024) : Fin 16384 := ⟨t.val / 16 * 4096 + (t.val % 8 * 512 + n.val - 512), by have := t.isLt; have := N_eq; omega⟩

theorem blk_key (n l : Fin 1024) (hn : 512 ≤ t.val % 8 * 512 + n.val) : above (iblk m c 1 t) (iblk m c 2 t) n l
    = argQkv m c (ix2 (pastRow t n) ⟨2048 + (outCol t l).val, by omega⟩) := by
  obtain ⟨-, h1, h2, -⟩ := idx t
  unfold above argQkv pastRow outCol
  split
  · blk_point [iblk, V, h1]
  · blk_point [iblk, V, h2]

theorem blk_value (n l : Fin 1024) (hn : 512 ≤ t.val % 8 * 512 + n.val) : above (iblk m c 3 t) (iblk m c 4 t) n l
    = argQkv m c (ix2 (pastRow t n) ⟨4096 + (outCol t l).val, by omega⟩) := by
  obtain ⟨-, -, -, h1, h2, -⟩ := idx t
  unfold above argQkv pastRow outCol
  split
  · blk_point [iblk, V, h1]
  · blk_point [iblk, V, h2]

/-- The window's row that entry `i` of row `r`'s frame is. -/
def place (r : Fin 512) (i : Fin 576) : Fin 640 := ⟨r.val % 128 / 64 * 64 + i.val, by omega⟩

theorem pastRow_eq (r : Fin 512) (i : Fin 576) : pastRow t (winRow r (place r i)) = frameRow (outRow t r) i := by
  have ht : t.val < 64 := t.isLt.trans_eq N_eq
  refine Fin.ext ?_
  show t.val / 16 * 4096 + (t.val % 8 * 512 + (r.val / 128 * 128 + (r.val % 128 / 64 * 64 + i.val)) - 512)
    = ((t.val / 16 * 8 + t.val % 8) * 512 + r.val) / 4096 * 4096
      + (((t.val / 16 * 8 + t.val % 8) * 512 + r.val) % 4096 / 64 * 64 + i.val - 512)
  omega

/-- Within the sequence, the block's score is the array's. -/
theorem blockScore_eq (r : Fin 512) (l : Fin 1024) (i : Fin 576) (hw : within (outRow t r) i) :
    blockScore (iblk m c 0 t) (iblk m c 1 t) (iblk m c 2 t) (iblk m c 5 t) r l (place r i)
      = score (argQkv m c) (argTable m c) (outRow t r) (outCol t l) i := by
  have hn : 512 ≤ t.val % 8 * 512 + (winRow r (place r i)).val := by
    show 512 ≤ t.val % 8 * 512 + (r.val / 128 * 128 + (r.val % 128 / 64 * 64 + i.val))
    replace hw : 512 ≤ ((t.val / 16 * 8 + t.val % 8) * 512 + r.val) % 4096 / 64 * 64 + i.val := hw
    omega
  have hcol : ∀ e : Fin 128, t.val / 8 % 2 * 1024 + (l.val / 128 * 128 + e.val) = (t.val / 8 % 2 * 1024 + l.val) / 128 * 128 + e.val :=
    fun e => by omega
  unfold blockScore score
  rw [blk_table]
  congr 1
  · refine Finset.sum_congr rfl fun e _ => ?_
    rw [blk_q, blk_key m c t _ _ hn, pastRow_eq]
    congr 1
    · exact congrArg (fun k => argQkv m c (ix2 (outRow t r) k)) (Fin.ext (hcol e))
    · exact congrArg (fun k => argQkv m c (ix2 (frameRow (outRow t r) i) k)) (Fin.ext (congrArg (2048 + ·) (hcol e)))
  · refine congrArg (argTable m c) ?_
    have h1 : t.val / 8 % 2 * 8 + l.val / 128 = (t.val / 8 % 2 * 1024 + l.val) / 128 := by omega
    have h2 : r.val % 128 = ((t.val / 16 * 8 + t.val % 8) * 512 + r.val) % 128 := by omega
    have h3 : r.val % 128 / 64 * 64 + i.val = ((t.val / 16 * 8 + t.val % 8) * 512 + r.val) % 128 / 64 * 64 + i.val := by omega
    exact congr (congr (congrArg ix3 (Fin.ext h1)) (Fin.ext h2)) (Fin.ext h3)

/-- The attention over a window is the attention over the frame, if the mask leaves of the window what lies within the sequence. -/
theorem attend_eq (hf : Finite (argQkv m c) (argTable m c)) (r : Fin 512) (l : Fin 1024) (P : Fin 640 → Prop) [DecidablePred P]
    (hP : ∀ j, P j → framed r j) (hw : ∀ i, P (place r i) ↔ within (outRow t r) i) :
    attend2 (fun j => if P j then blockScore (iblk m c 0 t) (iblk m c 1 t) (iblk m c 2 t) (iblk m c 5 t) r l j else ⊥)
        (fun j => above (iblk m c 3 t) (iblk m c 4 t) (winRow r j) l)
      = result (argQkv m c) (argTable m c) (ix2 (outRow t r) (outCol t l)) := by
  have hS : ∀ i, (if P (place r i) then blockScore (iblk m c 0 t) (iblk m c 1 t) (iblk m c 2 t) (iblk m c 5 t) r l (place r i) else ⊥)
      = kept (argQkv m c) (argTable m c) (outRow t r) (outCol t l) i := fun i => by
    unfold kept
    by_cases h : within (outRow t r) i
    · rw [if_pos ((hw i).mpr h), if_pos h, blockScore_eq m c t r l i h]
    · rw [if_neg fun hp => h ((hw i).mp hp), if_neg h]
  have hwithin : within (outRow t r) ⟨512, by omega⟩ := Nat.le_add_left _ _
  refine (attend_frame (⟨512, by omega⟩ : Fin 576) (place r) (fun i k hik => ?_) _ _ (value (argQkv m c) (outRow t r) (outCol t l))
    (fun j hj => ?_) (fun i => ?_) ?_ fun i => ?_).trans ?_
  · have := congrArg Fin.val hik
    exact Fin.ext (by simpa [place] using this)
  · refine if_neg fun hp => hj ?_
    obtain ⟨h1, h2⟩ := hP j hp
    exact ⟨⟨j.val - r.val % 128 / 64 * 64, by omega⟩, Fin.ext (by show r.val % 128 / 64 * 64 + (j.val - r.val % 128 / 64 * 64) = j.val; omega)⟩
  · rw [hS]
    unfold kept
    split
    · exact .inr (score_real _ _ hf _ _ i)
    · exact .inl rfl
  · rw [hS]
    unfold kept
    rw [if_pos hwithin]
    exact score_real _ _ hf _ _ _
  · rw [hS]
    unfold kept value
    by_cases h : within (outRow t r) i
    · refine .inr ?_
      rw [if_pos h, blk_value m c t _ _ ?_, pastRow_eq]
      show 512 ≤ t.val % 8 * 512 + (r.val / 128 * 128 + (r.val % 128 / 64 * 64 + i.val))
      replace h : 512 ≤ ((t.val / 16 * 8 + t.val % 8) * 512 + r.val) % 4096 / 64 * 64 + i.val := h
      omega
    · exact .inl (if_neg h)
  · simp only [hS]
    rfl

/-- Every point leaves its block of the result. -/
theorem out_eq (hf : Finite (argQkv m c) (argTable m c)) (r : Fin 512) (l : Fin 1024) : (outsAt0 m c t.val t.isLt) (ix2 r l)
    = result (argQkv m c) (argTable m c) (ix2 (outRow t r) (outCol t l)) := by
  by_cases h0 : t.val % 8 = 0
  · rw [first_out m c t h0]
    refine attend_eq m c t hf r l _ (fun j h => h.1) fun i => ?_
    show ((r.val % 128 / 64 * 64 ≤ r.val % 128 / 64 * 64 + i.val ∧ r.val % 128 / 64 * 64 + i.val < r.val % 128 / 64 * 64 + 576)
      ∧ 512 ≤ r.val / 128 * 128 + (r.val % 128 / 64 * 64 + i.val))
      ↔ 512 ≤ ((t.val / 16 * 8 + t.val % 8) * 512 + r.val) % 4096 / 64 * 64 + i.val
    omega
  · rw [later_out m c t (by omega)]
    refine attend_eq m c t hf r l _ (fun j h => h) fun i => ?_
    show (r.val % 128 / 64 * 64 ≤ r.val % 128 / 64 * 64 + i.val ∧ r.val % 128 / 64 * 64 + i.val < r.val % 128 / 64 * 64 + 576)
      ↔ 512 ≤ ((t.val / 16 * 8 + t.val % 8) * 512 + r.val) % 4096 / 64 * 64 + i.val
    omega

/-- After the run the result array holds the result of the arguments. -/
theorem final (hf : Finite (argQkv m c) (argTable m c)) : (dats m 0 c).arrAt 6 cfg0.N = result (argQkv m c) (argTable m c) := by
  refine (dats m 0 c).arrAt_eq_of_covers 6 _ (by decide +kernel) fun t hfl y => ?_
  blk_simp
  rw [after0_6]
  idx_vars y
  rw [out_eq m c t hf]
  obtain ⟨-, -, -, -, -, -, h⟩ := idx t
  refine congrArg (result (argQkv m c) (argTable m c)) ?_
  unfold outRow outCol
  blk_ext [h]

/-- The run of the kernel: the result array holds the result of the arguments, and these are unchanged. -/
theorem run (hf : ∀ c : Dev nD, Finite (argQkv m c) (argTable m c)) :
    θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c (hf c)), (h c).2⟩) (run_blocks (F := Ideal) m ρ)

end Cert.BandAttn

end
-- ==== Proof.BandFinite.lean ====
/-
  The banded attention's precondition: the queries, the keys and the table are numbers.
-/
module

public import proofs.«01_k».proof.Pre_finite
public import proofs.«01_k».proof.Proof.BandValue
public import Idealize.ShloMosaic.Lib.Pointwise
public import Idealize.ShloMosaic.Lib.ValueIdx

@[expose] public section

noncomputable section

namespace Cert.Pre_finite

open Idealize.ShloMosaic

/-- The side conditions of the precondition's operations. -/
theorem facts : Facts where
  slices_S16384x6144_S16384x4096_0_0 := by decide
  bitsLt_bf16_f32 := by decide
  bcast_S_S16384x4096 := by decide
  bcast_S_S16x128x640 := by decide

instance : Facts := facts

/-- What lies strictly below infinity in absolute value is a number. -/
theorem number (x : EReal) (h : Ideal.cmp .olt (max x (-x)) (Ideal.ofBits .f32 0x7F800000#32) = 1#1) : ∃ a : ℝ, x = a := by
  have ht : Ideal.ofBits .f32 0x7F800000#32 = (⊤ : EReal) := by simp [Ideal.ofBits, Ideal.ieee]
  rw [ht] at h
  have hlt : max x (-x) < ⊤ := by
    by_contra hn
    simp [Ideal.cmp, hn] at h
  induction x with
  | bot => simp at hlt
  | top => simp at hlt
  | coe a => exact ⟨a, rfl⟩

/-- Where the precondition holds, the queries, the keys and the table are numbers. -/
theorem finite (qkv : FVec Ideal S16384x6144 .bf16) (tb : FVec Ideal S16x128x640 .f32) (h0 : (fn (F := Ideal) qkv tb).1 = fun _ => 1#1)
    (h1 : (fn (F := Ideal) qkv tb).2 = fun _ => 1#1) : Cert.BandAttn.Finite qkv tb := by
  refine ⟨fun R C hC => number _ ?_, fun i => number _ ?_⟩
  · have h := congrFun h0 (ix2 R ⟨C.val, hC⟩)
    unfold fn at h
    pointwise at h
    exact h
  · have h := congrFun h1 i
    exact h

end Cert.Pre_finite

end
-- ==== Proof.BiasValue.lean ====
/-
  The bias table: what the kernel stores, and what the result array holds where the argument's elements are numbers.
-/
module

public import proofs.«01_k».proof.Proof.BandPay
public import proofs.«01_k».proof.Proof.Gen.BiasIdeal.Value
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.StableHlo.Predicate

@[expose] public section

set_option maxRecDepth 16384

noncomputable section

namespace Cert.BiasTable

open Idealize.ShloMosaic Idealize.ShloMosaic.TcCoe Idealize.SL.Sem
open Idealize.ShloMosaic.Pipeline (Dat)
open Cert.BiasIdeal Cert.BiasIdeal.Gen

/-- The bucket of the table's column `p`: the distance 639 - p, held to -63 … 256 and counted from -63. -/
def bucket (p : ℕ) : ℕ := min 319 (702 - p)

theorem bucket_lt (p : ℕ) : bucket p < 320 := by unfold bucket; omega

/-- The result: head `i 1`'s bias for the distance of column `i 2` from row `i 0`, in base 2. -/
def result (w : FVec Ideal S1x16x320 .f32) : FVec Ideal S128x16x640 .f32 := fun i =>
  w (ix3 0 (i 1) ⟨bucket (127 - (i 0).val + (i 2).val), bucket_lt _⟩) * Ideal.ofBits .f32 0x3FB8AA3B#32

/-- Every element of the argument is a number, not an infinity. -/
def Numbers (w : FVec Ideal S1x16x320 .f32) : Prop := ∀ i, ∃ a : ℝ, w i = a

/-- The bucket as the words compute it. -/
theorem bucket_word (p : Fin 768) : IntOp.addi (IntOp.minsi 256#32 (IntOp.maxsi 4294967233#32 (IntOp.subi 639#32 (BitVec.ofNat 32 p.val)))) 63#32
    = BitVec.ofNat 32 (bucket p.val) := by
  revert p
  decide +kernel

/-- A compare for equality, as a number. -/
theorem mark_eq (a b : ℕ) (ha : a < 320) (hb : b < 320) :
    (FloatOps.sitofp .f32 (BitVec.setWidth 32 (IntOp.cmpi .eq (BitVec.ofNat 32 a) (BitVec.ofNat 32 b))) : Ideal .f32)
      = if b = a then (1 : EReal) else 0 := by
  have hn : BitVec.ofNat 32 a = BitVec.ofNat 32 b ↔ b = a := by
    rw [← BitVec.toNat_inj, BitVec.toNat_ofNat, BitVec.toNat_ofNat]
    omega
  show (((BitVec.setWidth 32 (BitVec.ofBool (BitVec.ofNat 32 a == BitVec.ofNat 32 b))).toInt : ℝ) : EReal) = _
  by_cases h : b = a
  · rw [if_pos h, beq_iff_eq.mpr (hn.mpr h), (by decide : (BitVec.setWidth 32 (BitVec.ofBool true)).toInt = 1)]
    norm_num
  · rw [if_neg h, beq_eq_false_iff_ne.mpr (mt hn.mp h), (by decide : (BitVec.setWidth 32 (BitVec.ofBool false)).toInt = 0)]
    norm_num

/-- One bias for each of the table's columns: one-hot rows pick it, and what a number differs from itself adds nothing. -/
theorem ext_apply (x : Vec Ideal S16x320 .f32) (hx : ∀ i, ∃ a : ℝ, x i = a) (h : Fin 16) (p : Fin 768) :
    k0_pay6 x (ix2 h p) = x (ix2 h ⟨bucket p.val, bucket_lt _⟩) * Ideal.ofBits .f32 0x3FB8AA3B#32 := by
  have hz : ∀ i, x i - x i = 0 := fun i => by
    obtain ⟨a, ha⟩ := hx i
    rw [ha, ← EReal.coe_sub, sub_self, EReal.coe_zero]
  pointwise [k0_pay6, bucket_word]
  refine congrArg (· * _) ?_
  rw [Finset.sum_congr rfl fun k _ => congrArg (x (ix2 h k) * ·) (mark_eq (bucket p.val) k.val (bucket_lt _) k.isLt),
    Finset.sum_congr rfl fun k _ => (congrArg (· * _) (hz (ix2 h k))).trans (zero_mul _), Finset.sum_const_zero, add_zero,
    Finset.sum_eq_single (⟨bucket p.val, bucket_lt _⟩ : Fin 320)]
  · rw [if_pos rfl, mul_one]
  · intro k _ hk
    rw [if_neg fun e => hk (Fin.ext e), mul_zero]
  · exact fun e => absurd (Finset.mem_univ _) e

/-- The 640 columns from `o` on, under a unit axis. -/
theorem cut_apply (e : FVec Ideal S16x768 .f32) (o : ℕ) (ho : o + 640 ≤ 768) (hs : S16x768.Slices ![0, o] S16x640)
    (hc : S16x640.ShapeCasts S1x16x640) (z : S1x16x640.Idx) : shapeCast S1x16x640 (extractStridedSlice S16x640 ![0, o] e hs) hc z
      = e (ix2 (z 1) ⟨o + (z 2).val, by have : (z 2).val < 640 := (z 2).isLt; omega⟩) := by
  idx_vars z
  pointwise

/-- Row `r` of what the kernel stores, where `o` is the first column it cuts. -/
theorem row_apply (e : FVec Ideal S16x768 .f32) (o : ℕ) (ho : o + 640 ≤ 768) (hs : S16x768.Slices ![0, o] S16x640)
    (hc : S16x640.ShapeCasts S1x16x640) (z : S1x16x640.Idx) (r : Fin 128) (h : Fin 16) (j : Fin 640) (hr : r.val + o = 127)
    (h1 : h.val = (z 1).val) (h2 : j.val = (z 2).val) : shapeCast S1x16x640 (extractStridedSlice S16x640 ![0, o] e hs) hc z
      = e (ix2 h ⟨127 - r.val + j.val, by omega⟩) := by
  rw [cut_apply e o ho]
  exact congrArg₂ (fun k l => e (ix2 k l)) (Fin.ext h1.symm) (Fin.ext (by show o + (z 2).val = 127 - r.val + j.val; omega))

/-- What the kernel stores: row `r` is the 640 columns of the table from 127 - r on. -/
theorem out_apply (x : Vec Ideal S16x320 .f32) (r : Fin 128) (h : Fin 16) (j : Fin 640) :
    out0_1 x (ix3 r h j) = k0_pay6 x (ix2 h ⟨127 - r.val + j.val, by omega⟩) := by
  have hl : View.ld x r0_0 = x := by
    funext i
    idx_vars i
    pointwise
  unfold_out out0_1
  rw [hl]
  generalize hy : ix3 r h j = y
  canon_tiles z h
  all_goals subst hy
  all_goals
    replace h0 : r.val = _ := h0
    unfold_payloads
    exact row_apply (k0_pay6 x) _ (by omega) _ _ z r h j (by omega) h1 h2

variable (m : (ℓ : Loc nD τ sig) → Buf (Elt Ideal) ℓ) (ρ : Dev nD → PrngReg)

/-- Where the windows lie: both whole. -/
theorem idx : ∀ t : Fin cfg0.N, win0_0.index t = ![0, 0] ∧ win0_1.index t = ![0, 0, 0] :=
  (by decide +kernel : ∀ t : Fin grid0.N, win0_0.index t = ![0, 0] ∧ win0_1.index t = ![0, 0, 0])

/-- What the input window holds. -/
theorem read_apply (c : Dev nD) (t : Fin cfg0.N) (h : Fin 16) (k : Fin 320) :
    iblk m c 0 t (ix2 h k) = m ((c : Thread nD τ).loc main_arg0) (ix3 0 h k) := by
  obtain ⟨h0, h1⟩ := idx t
  blk_ext! [iblk, V, h0]

/-- After the run the result array holds the result of an argument whose elements are numbers. -/
theorem final (c : Dev nD) (hw : Numbers (m ((c : Thread nD τ).loc main_arg0))) :
    (dats m 0 c).arrAt 1 cfg0.N = result (m ((c : Thread nD τ).loc main_arg0)) := by
  refine (dats m 0 c).arrAt_eq_of_covers 1 _ (by decide +kernel) fun t hf y => ?_
  obtain ⟨h0, h1⟩ := idx t
  have he : ((cfg0.win 1).blk t).view.emb y = y := by
    blk_ext [h1]
  blk_simp
  rw [after0_1]
  idx_vars y
  rw [out_apply, ext_apply]
  · rw [read_apply]
    exact (congrArg (result (m ((c : Thread nD τ).loc main_arg0))) he).symm
  · intro i
    idx_vars i
    rw [read_apply]
    exact hw _

/-- The run of the kernel: the result array holds the result of an argument whose elements are numbers, and this is
    unchanged. -/
theorem run (hw : ∀ c : Dev nD, Numbers (m ((c : Thread nD τ).loc main_arg0))) :
    θ_run defs (onTc (τ := τ) (main (F := Ideal))) ⟨m, fun _ => 0, ρ⟩ fun r => ∀ c : Dev nD,
      r.2.mem ((c : Thread nD τ).loc main_v1) = result (m ((c : Thread nD τ).loc main_arg0))
      ∧ r.2.mem ((c : Thread nD τ).loc main_arg0) = m ((c : Thread nD τ).loc main_arg0) :=
  (θ_run defs _ _).mono (fun _ h c => ⟨(h c).1.trans (final m c (hw c)), (h c).2⟩)
    (Cert.BiasIdeal.Value.run_blocks (F := Ideal) m ρ)

end Cert.BiasTable

end
-- ==== Proof.BiasFinite.lean ====
/-
  The bias table's precondition: the argument's elements are numbers.
-/
module

public import proofs.«01_k».proof.Pre_finite_bias
public import proofs.«01_k».proof.Proof.BandFinite
public import proofs.«01_k».proof.Proof.BiasValue

@[expose] public section

noncomputable section

namespace Cert.Pre_finite_bias

open Idealize.ShloMosaic

/-- The side conditions of the precondition's operations. -/
theorem facts : Facts where
  bcast_S_S1x16x320 := by decide

instance : Facts := facts

/-- Where the precondition holds, the argument's elements are numbers. -/
theorem finite (w : FVec Ideal Cert.BiasIdeal.S1x16x320 .f32) (h : fn (F := Ideal) w = fun _ => 1#1) : Cert.BiasTable.Numbers w :=
  fun i => Cert.Pre_finite.number _ (congrFun h i)

end Cert.Pre_finite_bias

end
-- ==== Proof.RwkvIdealFrame.lean ====
/-
  The ideal frame of `_rwkv_mix`: from any launch memory the run ends, with the arguments unchanged and
  every counter at zero.

  Nothing is said of what the call computes. At every point of its grid the body is handed every staging buffer and
  every scratch array whole, at some contents, and it hands them all back whole, at some contents (`run`). The windows
  are therefore all forgotten; an input's array is still known at the end, since no point writes it back.
-/
module

public import proofs.«01_k».proof.Proof.Gen.RwkvIdeal.Launch
public import proofs.«01_k».proof.Proof.Gen.RwkvIdeal.Loops
public import proofs.«01_k».proof.Proof.Gen.RwkvIdeal.Points
public import proofs.«01_k».proof.Proof.Gen.RwkvIdeal.Frame
public import Idealize.ShloMosaic.Lib.Tactic
public import Idealize.ShloMosaic.Lib.WordCmp

@[expose] public section

set_option maxRecDepth 16384

noncomputable section

namespace Cert.RwkvIdeal.Body

open Cert.RwkvIdeal Cert.RwkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One run of the body -/

/-- A buffer owned whole by the core, at some contents. -/
abbrev held (c : Dev nD) {s : Shape} {e : EltTy} (a : Memref sig .tc .vmem s e) : sProp 𝕄 :=
  iprop(∃ d, owns (c : Thread nD τ) a fullShare d)

/-- A buffer whose contents are known is held at some contents. -/
theorem held_of (c : Dev nD) {s : Shape} {e : EltTy} (a : Memref sig .tc .vmem s e)
    (f : BufTy.Contents (Elt F) a.view.ty) :
    (a.view.loc (c : Thread nD τ) ↦[a.view.set]{fullShare} f : sProp 𝕄) ⊢ held (F := F) c a := by
  unfold held owns
  iintro H
  iexists _, _; isplitr; swap; · iexact H
  ipureintro; rfl

/-- The first conditional of the body, taken where a sequence begins: it projects the sequence's first tile. -/
abbrev begins (i : grid0.Coords) : Prop :=
  (Scalar.cmpi .ne (Scalar.extui (Scalar.cmpi .eq (BitVec.ofNat 32 (i 1).val) 0#32)) 0#32) = 1#1

/-- At every point exactly one of the body's two conditionals is taken. -/
theorem one_taken : ∀ t : Fin cfg0.N,
    (begins (grid0.coords t) ∧ ¬ k0_cond2 (grid0.coords t) = 1#1)
      ∨ (¬ begins (grid0.coords t) ∧ k0_cond2 (grid0.coords t) = 1#1) :=
  (by decide +kernel : ∀ t : Fin grid0.N,
    (begins (grid0.coords t) ∧ ¬ k0_cond2 (grid0.coords t) = 1#1)
      ∨ (¬ begins (grid0.coords t) ∧ k0_cond2 (grid0.coords t) = 1#1))

/-- Every staging buffer and every scratch array of the call, held at some contents. -/
abbrev all (c : Dev nD) (arg2 : Memref sig .tc .vmem S256x2048 .f32) (arg3 : Memref sig .tc .vmem S1x2048 .f32)
    (arg4 : Memref sig .tc .vmem S2048x3584 .bf16) (arg5 : Memref sig .tc .vmem S1x3584 .f32)
    (arg6 : Memref sig .tc .vmem S1x1024 .f32) (arg7 : Memref sig .tc .vmem S128x1024 .bf16)
    (arg8 : Memref sig .tc .vmem S1x1024 .f32) (arg9 : Memref sig .tc .vmem S256x1024 .bf16)
    (arg10 : Memref sig .tc .vmem S384x1024 .bf16) (arg11 : Memref sig .tc .vmem S1x1024 .f32)
    (arg12 : Memref sig .tc .vmem S1x1024 .f32) (arg13 : Memref sig .tc .vmem S1x1024 .f32)
    (arg14 : Memref sig .tc .vmem S1x1024 .f32) (arg15 : Memref sig .tc .vmem S1x1024 .f32)
    (arg16 : Memref sig .tc .vmem S256x1024 .bf16) (arg17 : Memref sig .tc .vmem S256x3584 .f32)
    (arg18 : Memref sig .tc .vmem S8x3584 .f32) (arg19 : Memref sig .tc .vmem S16x64x64 .f32)
    (arg20 : Memref sig .tc .vmem S256x1024 .bf16) (arg21 : Memref sig .tc .vmem S256x1024 .bf16)
    (arg22 : Memref sig .tc .vmem S256x1024 .bf16) (arg23 : Memref sig .tc .vmem S256x1024 .bf16)
    (arg24 : Memref sig .tc .vmem S256x1024 .bf16) (arg25 : Memref sig .tc .vmem S8x1024 .f32)
    (arg26 : Memref sig .tc .vmem S256x1024 .f32) : sProp 𝕄 :=
  iprop(held (F := F) c arg2 ∗ held (F := F) c arg3 ∗ held (F := F) c arg4 ∗ held (F := F) c arg5
    ∗ held (F := F) c arg6 ∗ held (F := F) c arg7 ∗ held (F := F) c arg8 ∗ held (F := F) c arg9
    ∗ held (F := F) c arg10 ∗ held (F := F) c arg11 ∗ held (F := F) c arg12 ∗ held (F := F) c arg13
    ∗ held (F := F) c arg14 ∗ held (F := F) c arg15 ∗ held (F := F) c arg16 ∗ held (F := F) c arg17
    ∗ held (F := F) c arg18 ∗ held (F := F) c arg19 ∗ held (F := F) c arg20 ∗ held (F := F) c arg21
    ∗ held (F := F) c arg22 ∗ held (F := F) c arg23 ∗ held (F := F) c arg24 ∗ held (F := F) c arg25
    ∗ held (F := F) c arg26)

set_option maxHeartbeats 8000000 in
/-- The body, run once: it takes every buffer whole and gives every buffer back whole. -/
theorem run (c : Dev nD) (i : grid0.Coords) (arg2 : Memref sig .tc .vmem S256x2048 .f32) (arg3 : Memref sig .tc .vmem S1x2048 .f32)
    (arg4 : Memref sig .tc .vmem S2048x3584 .bf16) (arg5 : Memref sig .tc .vmem S1x3584 .f32)
    (arg6 : Memref sig .tc .vmem S1x1024 .f32) (arg7 : Memref sig .tc .vmem S128x1024 .bf16)
    (arg8 : Memref sig .tc .vmem S1x1024 .f32) (arg9 : Memref sig .tc .vmem S256x1024 .bf16)
    (arg10 : Memref sig .tc .vmem S384x1024 .bf16) (arg11 : Memref sig .tc .vmem S1x1024 .f32)
    (arg12 : Memref sig .tc .vmem S1x1024 .f32) (arg13 : Memref sig .tc .vmem S1x1024 .f32)
    (arg14 : Memref sig .tc .vmem S1x1024 .f32) (arg15 : Memref sig .tc .vmem S1x1024 .f32)
    (arg16 : Memref sig .tc .vmem S256x1024 .bf16) (arg17 : Memref sig .tc .vmem S256x3584 .f32)
    (arg18 : Memref sig .tc .vmem S8x3584 .f32) (arg19 : Memref sig .tc .vmem S16x64x64 .f32)
    (arg20 : Memref sig .tc .vmem S256x1024 .bf16) (arg21 : Memref sig .tc .vmem S256x1024 .bf16)
    (arg22 : Memref sig .tc .vmem S256x1024 .bf16) (arg23 : Memref sig .tc .vmem S256x1024 .bf16)
    (arg24 : Memref sig .tc .vmem S256x1024 .bf16) (arg25 : Memref sig .tc .vmem S8x1024 .f32)
    (arg26 : Memref sig .tc .vmem S256x1024 .f32)
    (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole)
    (harg10 : arg10.IsWhole) (harg11 : arg11.IsWhole) (harg12 : arg12.IsWhole) (harg13 : arg13.IsWhole)
    (harg14 : arg14.IsWhole) (harg15 : arg15.IsWhole) (harg16 : arg16.IsWhole) (harg17 : arg17.IsWhole)
    (harg18 : arg18.IsWhole) (harg19 : arg19.IsWhole) (harg20 : arg20.IsWhole) (harg21 : arg21.IsWhole)
    (harg22 : arg22.IsWhole) (harg23 : arg23.IsWhole) (harg24 : arg24.IsWhole) (harg25 : arg25.IsWhole)
    (harg26 : arg26.IsWhole)
    (hi : (begins i ∧ ¬ k0_cond2 i = 1#1) ∨ (¬ begins i ∧ k0_cond2 i = 1#1)) :
    all (F := F) c arg2 arg3 arg4 arg5 arg6 arg7 arg8 arg9 arg10 arg11 arg12 arg13 arg14 arg15 arg16 arg17 arg18 arg19 arg20
      arg21 arg22 arg23 arg24 arg25 arg26
      ⊢ wp frame (wpE (defs₀ (F := F)) Variants.none c none) Set.univ (cc0_rwkv_mix (F := F) i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26)
        (fun _ => all (F := F) c arg2 arg3 arg4 arg5 arg6 arg7 arg8 arg9 arg10 arg11 arg12 arg13 arg14 arg15 arg16 arg17 arg18 arg19 arg20
      arg21 arg22 arg23 arg24 arg25 arg26) := by
  simp only [cc0_rwkv_mix_eq_skeleton]; unfold cc0_rwkv_mix_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton,
    k0_part10_eq_skeleton, k0_part11_eq_skeleton, k0_part12_eq_skeleton, k0_part13_eq_skeleton,
    k0_part14_eq_skeleton, k0_part15_eq_skeleton, k0_part16_eq_skeleton, k0_part17_eq_skeleton,
    k0_part18_eq_skeleton, k0_part19_eq_skeleton, k0_part20_eq_skeleton, k0_part21_eq_skeleton,
    k0_part22_eq_skeleton, k0_part23_eq_skeleton, k0_part24_eq_skeleton, k0_part25_eq_skeleton,
    k0_part26_eq_skeleton, k0_part27_eq_skeleton, k0_part28_eq_skeleton, k0_part29_eq_skeleton,
    k0_part30_eq_skeleton, k0_part31_eq_skeleton, k0_part32_eq_skeleton, k0_part33_eq_skeleton,
    k0_part34_eq_skeleton, k0_part35_eq_skeleton, k0_part36_eq_skeleton, k0_part37_eq_skeleton,
    k0_part38_eq_skeleton, k0_part39_eq_skeleton, k0_part40_eq_skeleton, k0_part41_eq_skeleton,
    k0_part42_eq_skeleton, k0_part43_eq_skeleton, k0_part44_eq_skeleton, k0_part45_eq_skeleton,
    k0_part46_eq_skeleton, k0_part47_eq_skeleton, k0_part48_eq_skeleton]
  unfold all held owns
  iintro ⟨⟨%d2, %f2, -, H2⟩, ⟨%d3, %f3, -, H3⟩, ⟨%d4, %f4, -, H4⟩, ⟨%d5, %f5, -, H5⟩, ⟨%d6, %f6, -, H6⟩,
      ⟨%d7, %f7, -, H7⟩, ⟨%d8, %f8, -, H8⟩, ⟨%d9, %f9, -, H9⟩, ⟨%d10, %f10, -, H10⟩, ⟨%d11, %f11, -, H11⟩,
      ⟨%d12, %f12, -, H12⟩, ⟨%d13, %f13, -, H13⟩, ⟨%d14, %f14, -, H14⟩, ⟨%d15, %f15, -, H15⟩,
      ⟨%d16, %f16, -, H16⟩, ⟨%d17, %f17, -, H17⟩, ⟨%d18, %f18, -, H18⟩, ⟨%d19, %f19, -, H19⟩,
      ⟨%d20, %f20, -, H20⟩, ⟨%d21, %f21, -, H21⟩, ⟨%d22, %f22, -, H22⟩, ⟨%d23, %f23, -, H23⟩,
      ⟨%d24, %f24, -, H24⟩, ⟨%d25, %f25, -, H25⟩, ⟨%d26, %f26, -, H26⟩⟩
  obtain ⟨hc0, hc1⟩ | ⟨hc0, hc1⟩ := hi
  all_goals
    sl_exec (disch := first | sl_exact hc0 | sl_exact hc1)
    sl_step
    isplitl [H2]; · iapply held_of c _ _; iexact H2
    isplitl [H3]; · iapply held_of c _ _; iexact H3
    isplitl [H4]; · iapply held_of c _ _; iexact H4
    isplitl [H5]; · iapply held_of c _ _; iexact H5
    isplitl [H6]; · iapply held_of c _ _; iexact H6
    isplitl [H7]; · iapply held_of c _ _; iexact H7
    isplitl [H8]; · iapply held_of c _ _; iexact H8
    isplitl [H9]; · iapply held_of c _ _; iexact H9
    isplitl [H10]; · iapply held_of c _ _; iexact H10
    isplitl [H11]; · iapply held_of c _ _; iexact H11
    isplitl [H12]; · iapply held_of c _ _; iexact H12
    isplitl [H13]; · iapply held_of c _ _; iexact H13
    isplitl [H14]; · iapply held_of c _ _; iexact H14
    isplitl [H15]; · iapply held_of c _ _; iexact H15
    isplitl [H16]; · iapply held_of c _ _; iexact H16
    isplitl [H17]; · iapply held_of c _ _; iexact H17
    isplitl [H18]; · iapply held_of c _ _; iexact H18
    isplitl [H19]; · iapply held_of c _ _; iexact H19
    isplitl [H20]; · iapply held_of c _ _; iexact H20
    isplitl [H21]; · iapply held_of c _ _; iexact H21
    isplitl [H22]; · iapply held_of c _ _; iexact H22
    isplitl [H23]; · iapply held_of c _ _; iexact H23
    isplitl [H24]; · iapply held_of c _ _; iexact H24
    isplitl [H25]; · iapply held_of c _ _; iexact H25
    iapply held_of c _ _; iexact H26

/-! ## The body at a point of the grid -/

/-- The scratch arrays and the generator's register, as the launch holds them between two points. -/
theorem between (c : Dev nD) :
    (Pipeline.ΦA spec0 c : sProp 𝕄)
      = iprop(iprop(held (F := F) c (Memref.whole cc0_scratch0) ∗ held (F := F) c (Memref.whole cc0_scratch1)
    ∗ held (F := F) c (Memref.whole cc0_scratch2) ∗ held (F := F) c (Memref.whole cc0_scratch3)
    ∗ held (F := F) c (Memref.whole cc0_scratch4) ∗ held (F := F) c (Memref.whole cc0_scratch5)
    ∗ held (F := F) c (Memref.whole cc0_scratch6) ∗ held (F := F) c (Memref.whole cc0_scratch7)
    ∗ held (F := F) c (Memref.whole cc0_scratch8) ∗ held (F := F) c (Memref.whole cc0_scratch9)) ∗ (∃ r, prngReg c r)) := by
  unfold Pipeline.ΦA; rw [scopedRest0_eq]; simp only [held, owns_whole]; try rfl

/-- Every window is forgotten. -/
def forgets0 : Fin 15 → Bool := fun _ => true

/-- The data of the pipeline: its arrays as the region finds them, what a point leaves unnamed, the scratch arrays at
    some contents between points. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The arrays at the start of the pipeline. -/
theorem A_eq (c : Dev nD) (w : Fin cfg0.W) : (dats m 0 c).A w = V m c (Pipeline.arrRef spec0 w) := by dsimp only [dats]

/-- What the body is called with at a point, and what it returns there: every staging buffer at some contents. -/
def bodyPre (c : Dev nD) (t : Fin cfg0.N) : sProp 𝕄 :=
  iprop((dats m 0 c).Φ t.castSucc ∗ (dats m 0 c).owesAt () t.castSucc
    ∗ held (F := F) c (st0_0 t) ∗ held (F := F) c (st0_1 t) ∗ held (F := F) c (st0_2 t)
    ∗ held (F := F) c (st0_3 t) ∗ held (F := F) c (st0_4 t) ∗ held (F := F) c (st0_5 t)
    ∗ held (F := F) c (st0_6 t) ∗ held (F := F) c (st0_7 t) ∗ held (F := F) c (st0_8 t)
    ∗ held (F := F) c (st0_9 t) ∗ held (F := F) c (st0_10 t) ∗ held (F := F) c (st0_11 t)
    ∗ held (F := F) c (st0_12 t) ∗ held (F := F) c (st0_13 t) ∗ held (F := F) c (st0_14 t))
/-- The same, after the point. -/
def bodyPost (c : Dev nD) (t : Fin cfg0.N) : sProp 𝕄 :=
  iprop((dats m 0 c).Φ t.succ ∗ (dats m 0 c).owesAt () t.succ
    ∗ held (F := F) c (st0_0 t) ∗ held (F := F) c (st0_1 t) ∗ held (F := F) c (st0_2 t)
    ∗ held (F := F) c (st0_3 t) ∗ held (F := F) c (st0_4 t) ∗ held (F := F) c (st0_5 t)
    ∗ held (F := F) c (st0_6 t) ∗ held (F := F) c (st0_7 t) ∗ held (F := F) c (st0_8 t)
    ∗ held (F := F) c (st0_9 t) ∗ held (F := F) c (st0_10 t) ∗ held (F := F) c (st0_11 t)
    ∗ held (F := F) c (st0_12 t) ∗ held (F := F) c (st0_13 t) ∗ held (F := F) c (st0_14 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, between]
  iintro ⟨⟨⟨H17, H18, H19, H20, H21, H22, H23, H24, H25, H26⟩, Hg⟩, Ho, H2, H3, H4, H5, H6, H7, H8, H9, H10, H11, H12, H13, H14, H15, H16⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17 H18 H19 H20 H21 H22 H23 H24 H25 H26]
  · iapply (run c (grid0.coords t) _ _ _ _ _ _ _ _ _ _ _ _ _ _ _ _ _ _ _ _ _ _ _ _ _ _ _ _ _ _ _ _ _ _ _ _ _ _ _ _ _ _ _ _ _ _ _ _ _ _ (one_taken t))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26
  iintro %_ ⟨H2, H3, H4, H5, H6, H7, H8, H9, H10, H11, H12, H13, H14, H15, H16, H17, H18, H19, H20, H21, H22, H23, H24, H25, H26⟩
  isplitl [H17 H18 H19 H20 H21 H22 H23 H24 H25 H26 Hg]
  · isplitl [H17 H18 H19 H20 H21 H22 H23 H24 H25 H26]
    · isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iexact H26
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body that a point calls. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: it ends, every input's array and every buffer beside the windows as the region found them, every
    counter at zero. -/
theorem run_main : θ_run defs (onTc (τ := τ) (main (F := F))) (s₀ m ρ)
    (fun r => Pipeline.RDat.FramePost (cfgs 0) (fun c => (dats m 0 c).toRForget forgets0) (V m) r
      ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments as the run leaves them. -/
theorem unchanged {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(h.arr_in c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

/-- The run ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨unchanged m h.1, h.2⟩) (run_main m ρ)

end Cert.RwkvIdeal.Body
-- ==== Proof.Frames.lean ====
/-
  Every program runs to the end without a fault, leaves its arguments unchanged and every semaphore at zero.
-/
module

public import proofs.«01_k».proof.Defs
public import proofs.«01_k».proof.Proof.Gen.Ffn.Frame
public import proofs.«01_k».proof.Proof.Gen.FfnIdeal.Frame
public import proofs.«01_k».proof.Proof.Gen.FfnRefIdeal.Run
public import proofs.«01_k».proof.Proof.Gen.Qkv.Frame
public import proofs.«01_k».proof.Proof.Gen.QkvIdeal.Frame
public import proofs.«01_k».proof.Proof.Gen.QkvRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.OutAb.Frame
public import proofs.«01_k».proof.Proof.Gen.OutAbIdeal.Frame
public import proofs.«01_k».proof.Proof.Gen.OutAbRefIdeal.Run
public import proofs.«01_k».proof.Proof.BandFrame
public import proofs.«01_k».proof.Proof.BandIdealFrame
public import proofs.«01_k».proof.Proof.Gen.BandRefIdeal.Run
public import proofs.«01_k».proof.Proof.BandFinite
public import proofs.«01_k».proof.Proof.Gen.Bias.Frame
public import proofs.«01_k».proof.Proof.Gen.BiasIdeal.Frame
public import proofs.«01_k».proof.Proof.Gen.BiasRefIdeal.Run
public import proofs.«01_k».proof.Proof.BiasFinite
public import proofs.«01_k».proof.Proof.Gen.SsmWeight.Frame
public import proofs.«01_k».proof.Proof.Gen.SsmWeightIdeal.Frame
public import proofs.«01_k».proof.Proof.Gen.SsmWeightRefIdeal.Run
public import proofs.«01_k».proof.Proof.Gen.Ssd.Frame
public import proofs.«01_k».proof.Proof.Gen.SsdIdeal.Frame
public import proofs.«01_k».proof.Proof.RwkvFrame
public import proofs.«01_k».proof.Proof.RwkvIdealFrame
public import Idealize.ShloMosaic.Lib.Claim

@[expose] public section

noncomputable section

namespace Cert.Frames

open Idealize.ShloMosaic Idealize.SL.Sem

/-! ## The feed-forward -/

theorem ffn_kernel : Cert.quiescent_Ffn := fun m ρ _ => Cert.Ffn.Gen.frame m ρ

theorem ffn_ideal : Cert.quiescent_FfnIdeal := fun m ρ _ => Cert.FfnIdeal.Gen.frame m ρ

theorem ffn_reference : Cert.quiescent_FfnRefIdeal := fun m ρ _ =>
  (θ_run _ _ _).mono (fun r h => ⟨fun c => (h c).2, sem_eq_zero_of_no_sems (by decide) r.2⟩)
    (Cert.FfnRefIdeal.Value.run (F := Ideal) m ρ)

/-! ## The projection to queries, keys and values -/

theorem qkv_kernel : Cert.quiescent_Qkv := fun m ρ _ => Cert.Qkv.Gen.frame m ρ

theorem qkv_ideal : Cert.quiescent_QkvIdeal := fun m ρ _ => Cert.QkvIdeal.Gen.frame m ρ

theorem qkv_reference : Cert.quiescent_QkvRefIdeal := fun m ρ _ =>
  (θ_run _ _ _).mono (fun r h => ⟨fun c => (h c).2, sem_eq_zero_of_no_sems (by decide) r.2⟩)
    (Cert.QkvRefIdeal.Value.run (F := Ideal) m ρ)

/-! ## The output projection of the attention -/

theorem out_kernel : Cert.quiescent_Out := fun m ρ _ => Cert.Out.Gen.frame m ρ

theorem out_ideal : Cert.quiescent_OutIdeal := fun m ρ _ => Cert.OutIdeal.Gen.frame m ρ

theorem out_reference : Cert.quiescent_OutRefIdeal := fun m ρ _ =>
  (θ_run _ _ _).mono (fun r h => ⟨fun c => (h c).2, sem_eq_zero_of_no_sems (by decide) r.2⟩)
    (Cert.OutRefIdeal.Value.run (F := Ideal) m ρ)

/-! ## The output projection of the two mixers -/

theorem outAb_kernel : Cert.quiescent_OutAb := fun m ρ _ => Cert.OutAb.Gen.frame m ρ

theorem outAb_ideal : Cert.quiescent_OutAbIdeal := fun m ρ _ => Cert.OutAbIdeal.Gen.frame m ρ

theorem outAb_reference : Cert.quiescent_OutAbRefIdeal := fun m ρ _ =>
  (θ_run _ _ _).mono (fun r h => ⟨fun c => (h c).2, sem_eq_zero_of_no_sems (by decide) r.2⟩)
    (Cert.OutAbRefIdeal.Value.run (F := Ideal) m ρ)

/-! ## The attention over the band -/

theorem band_kernel : Cert.quiescent_Band := fun m ρ _ => Cert.Band.Body.frame m ρ

theorem band_ideal : Cert.quiescent_BandIdeal := fun m ρ _ => Cert.BandIdeal.Body.frame m ρ

theorem band_reference : Cert.quiescent_BandRefIdeal := fun m ρ _ =>
  (θ_run _ _ _).mono (fun r h => ⟨fun c => (h c).2, sem_eq_zero_of_no_sems (by decide) r.2⟩)
    (Cert.BandRefIdeal.Value.run (F := Ideal) m ρ)

/-- The same under the precondition, which neither needs. -/
theorem band_ideal_finite : Cert.quiescent_BandIdeal_pre_finite := fun m ρ _ => band_ideal m ρ trivial

theorem band_reference_finite : Cert.quiescent_BandRefIdeal_pre_finite := fun m ρ _ => band_reference m ρ trivial

/-! ## The bias table -/

theorem bias_kernel : Cert.quiescent_Bias := fun m ρ _ => Cert.Bias.Gen.frame m ρ

theorem bias_ideal : Cert.quiescent_BiasIdeal := fun m ρ _ => Cert.BiasIdeal.Gen.frame m ρ

theorem bias_reference : Cert.quiescent_BiasRefIdeal := fun m ρ _ =>
  (θ_run _ _ _).mono (fun r h => ⟨fun c => (h c).2, sem_eq_zero_of_no_sems (by decide) r.2⟩)
    (Cert.BiasRefIdeal.Value.run (F := Ideal) m ρ)

/-- The same under the precondition, which neither needs. -/
theorem bias_ideal_finite : Cert.quiescent_BiasIdeal_pre_finite_bias := fun m ρ _ => bias_ideal m ρ trivial

theorem bias_reference_finite : Cert.quiescent_BiasRefIdeal_pre_finite_bias := fun m ρ _ => bias_reference m ρ trivial

/-! ## The state space model's weight -/

theorem ssmWeight_kernel : Cert.quiescent_SsmWeight := fun m ρ _ => Cert.SsmWeight.Gen.frame m ρ

theorem ssmWeight_ideal : Cert.quiescent_SsmWeightIdeal := fun m ρ _ => Cert.SsmWeightIdeal.Gen.frame m ρ

theorem ssmWeight_reference : Cert.quiescent_SsmWeightRefIdeal := fun m ρ _ =>
  (θ_run _ _ _).mono (fun r h => ⟨fun c => (h c).2, sem_eq_zero_of_no_sems (by decide) r.2⟩)
    (Cert.SsmWeightRefIdeal.Value.run (F := Ideal) m ρ)

/-! ## Layer 0's two mixers -/

theorem ssd_kernel : Cert.quiescent_Ssd := fun m ρ _ => Cert.Ssd.Gen.frame m ρ

theorem ssd_ideal : Cert.quiescent_SsdIdeal := fun m ρ _ => Cert.SsdIdeal.Gen.frame m ρ

theorem rwkv_kernel : Cert.quiescent_Rwkv := fun m ρ _ => Cert.Rwkv.Body.frame m ρ

theorem rwkv_ideal : Cert.quiescent_RwkvIdeal := fun m ρ _ => Cert.RwkvIdeal.Body.frame m ρ

end Cert.Frames

end
-- ==== Proof.Preserves.lean ====
/-
  The programs and their idealized forms differ in the named constants alone: each name is bound, at the ideal instance, to
  the number it stands for.
-/
module

public import proofs.«01_k».proof.Defs

@[expose] public section

noncomputable section

namespace Cert.Preserves

open Idealize.ShloMosaic

theorem qkv : Cert.preserves_Qkv_QkvIdeal := trivial

theorem ffn : Cert.preserves_Ffn_FfnIdeal := trivial

theorem out : Cert.preserves_Out_OutIdeal := trivial

theorem outAb : Cert.preserves_OutAb_OutAbIdeal := trivial

theorem band : Cert.preserves_Band_BandIdeal := IdealRules.named_const.statement _ _ _ _ _ rfl

theorem bias : Cert.preserves_Bias_BiasIdeal := trivial

theorem ssmWeight : Cert.preserves_SsmWeight_SsmWeightIdeal := trivial

theorem ssd : Cert.preserves_Ssd_SsdIdeal := trivial

theorem rwkv : Cert.preserves_Rwkv_RwkvIdeal := trivial

end Cert.Preserves

end
-- ==== Proof.Maths.lean ====
/-
  The mathematics shared by the calls: the RMS norm of a row over the extended reals.
-/
module

public import Idealize.ShloMosaic.Lib.Pointwise
public import Idealize.ShloMosaic.PureOps.Ideal
public import Idealize.ShloMosaic.Lib.IdealHost

@[expose] public section

noncomputable section

namespace Cert.Maths

open Idealize.ShloMosaic

/-- The factor an RMS norm multiplies a row of 2048 numbers by: one over the root of the mean of the squares plus `ε`. -/
def rmsScale (row : Fin 2048 → EReal) : EReal :=
  Ideal.rsqrt (Ideal.div (∑ k, row k * row k) (Ideal.ofBits .f32 0x45000000#32) + Ideal.ofBits .f32 0x358637BD#32)

/-- The sigmoid as the kernels spell it, one divided by one plus `e` to the zero minus `z`, is the logistic function. -/
theorem sigmoid_eq (z : EReal) : Ideal.div (Ideal.ofBits .f32 0x3F800000#32)
    (Ideal.ofBits .f32 0x3F800000#32 + Ideal.exp (Ideal.ofBits .f32 0x00000000#32 - z)) = Ideal.logistic z := by
  rw [Ideal.ofBits_one_f32, Ideal.ofBits_zero_f32, zero_sub]
  rfl

/-- One hidden unit of the gated feed-forward part: `z` the product with the gate's weights, `z` times its sigmoid times
    the product with the other weights. -/
def gated (h wg wu : Fin 2048 → EReal) : EReal :=
  (∑ k, h k * wg k) * Ideal.logistic (∑ k, h k * wg k) * ∑ k, h k * wu k

end Cert.Maths

end
-- ==== Proof.FfnPay.lean ====
/-
  The feed-forward part: what each stretch of one grid point's work computes, at an index.
-/
module

public import proofs.«01_k».proof.Proof.Maths
public import proofs.«01_k».proof.Proof.Gen.FfnIdeal.Skeleton
public import Idealize.ShloMosaic.Lib.Pointwise
public import Idealize.ShloMosaic.Lib.ValueIdx

@[expose] public section

set_option maxRecDepth 16384

noncomputable section

namespace Cert.FeedForward

open Idealize.ShloMosaic Idealize.ShloMosaic.TcCoe Idealize.SL.Sem
open Cert.FfnIdeal Cert.FfnIdeal.Gen

/-- What 512 hidden units, over the normed row `h`, add to the output at column `l`. -/
def blockTerm (h : Fin 2048 → EReal) (wg wu : Vec Ideal S1x2048x512 .bf16) (wd : Vec Ideal S1x512x2048 .bf16)
    (l : Fin 2048) : EReal :=
  ∑ f : Fin 512, Maths.gated h (fun k => wg (ix3 0 k f)) (fun k => wu (ix3 0 k f)) * wd (ix3 0 f l)

/-- A row normed: the row times its RMS factor times the norm's weights. -/
def normRow (x : Fin 2048 → EReal) (g : Fin 2048 → EReal) (k : Fin 2048) : EReal := x k * Maths.rmsScale x * g k

/-- A middle point's work: what the point before left plus this block's term. -/
theorem middle_apply (v11 : Vec Ideal S1024x2048 .f32) (v13 : Vec Ideal S1024x2048 .bf16) (v14 v25 : Vec Ideal S1x2048x512 .bf16)
    (v30 : Vec Ideal S1x512x2048 .bf16) (r : Fin 1024) (l : Fin 2048) :
    k0_pay2 v11 v13 v14 v25 v30 (ix2 r l) = v11 (ix2 r l) + blockTerm (fun k => v13 (ix2 r k)) v14 v25 v30 l := by
  unfold blockTerm Maths.gated
  simp only [← Maths.sigmoid_eq]
  pointwise [k0_pay2]

section First

variable (x : Vec Ideal S256x2048 .f32) (g : Vec Ideal S1x2048 .f32) (wg wu : Vec Ideal S1x2048x512 .bf16)
  (wd : Vec Ideal S1x512x2048 .bf16) (r : Fin 256) (l : Fin 2048)

/-- A first point keeps the normed rows: chunk 0. -/
theorem keep0_apply : k0_pay5 x g (ix2 r l) = normRow (fun k => x (ix2 r k)) (fun k => g (ix2 0 k)) l := by
  unfold normRow Maths.rmsScale
  pointwise [k0_pay5, k0_pay4]

/-- A first point keeps the normed rows: chunk 1. -/
theorem keep1_apply : k0_pay9 x g (ix2 r l) = normRow (fun k => x (ix2 r k)) (fun k => g (ix2 0 k)) l := by
  unfold normRow Maths.rmsScale
  pointwise [k0_pay9, k0_pay8]

/-- A first point keeps the normed rows: chunk 2. -/
theorem keep2_apply : k0_pay14 x g (ix2 r l) = normRow (fun k => x (ix2 r k)) (fun k => g (ix2 0 k)) l := by
  unfold normRow Maths.rmsScale
  pointwise [k0_pay14, k0_pay13]

/-- A first point keeps the normed rows: chunk 3. -/
theorem keep3_apply : k0_pay19 x g (ix2 r l) = normRow (fun k => x (ix2 r k)) (fun k => g (ix2 0 k)) l := by
  unfold normRow Maths.rmsScale
  pointwise [k0_pay19, k0_pay18]

/-- A first point's output: the block's term of the normed row, chunk 0. -/
theorem first0_apply : k0_pay7 (k0_pay6 x g wg wu) wd (ix2 r l)
    = blockTerm (normRow (fun k => x (ix2 r k)) (fun k => g (ix2 0 k))) wg wu wd l := by
  unfold blockTerm Maths.gated normRow Maths.rmsScale
  simp only [← Maths.sigmoid_eq]
  pointwise [k0_pay7, k0_pay6, k0_pay4, k0_pay5]

/-- A first point's output: the block's term of the normed row, chunk 1. -/
theorem first1_apply : k0_pay12 (k0_pay8 x g) (k0_pay10 x g wg) (k0_pay11 wu) (constant S256x512 .f32 0x00000000#32) wd (ix2 r l)
    = blockTerm (normRow (fun k => x (ix2 r k)) (fun k => g (ix2 0 k))) wg wu wd l := by
  unfold blockTerm Maths.gated normRow Maths.rmsScale
  simp only [← Maths.sigmoid_eq]
  pointwise [k0_pay12, k0_pay8, k0_pay10, k0_pay11]

/-- A first point's output: the block's term of the normed row, chunk 2. -/
theorem first2_apply : k0_pay17 (k0_pay13 x g) (k0_pay15 x g wg) (k0_pay16 x g wg) wu wd (ix2 r l)
    = blockTerm (normRow (fun k => x (ix2 r k)) (fun k => g (ix2 0 k))) wg wu wd l := by
  unfold blockTerm Maths.gated normRow Maths.rmsScale
  simp only [← Maths.sigmoid_eq]
  pointwise [k0_pay17, k0_pay13, k0_pay15, k0_pay16]

/-- A first point's output: the block's term of the normed row, chunk 3. -/
theorem first3_apply : k0_pay1 (k0_pay18 x g) (k0_pay20 x g wg) (k0_pay21 x g wg) wu wd (ix2 r l)
    = blockTerm (normRow (fun k => x (ix2 r k)) (fun k => g (ix2 0 k))) wg wu wd l := by
  unfold blockTerm Maths.gated normRow Maths.rmsScale
  simp only [← Maths.sigmoid_eq]
  pointwise [k0_pay1, k0_pay18, k0_pay20, k0_pay21]

end First

/-- The layer's output at one entry: the residual plus the normed feed-forward row. -/
def finish (x : EReal) (y g : Fin 2048 → EReal) (l : Fin 2048) : EReal := x + y l * Maths.rmsScale y * g l

section Last

variable (acc : Vec Ideal S256x2048 .f32) (h : Vec Ideal S256x2048 .bf16) (x : Vec Ideal S256x2048 .f32)
  (g : Vec Ideal S1x2048 .f32) (wg wu : Vec Ideal S1x2048x512 .bf16)
  (wd : Vec Ideal S1x512x2048 .bf16) (r : Fin 256) (l : Fin 2048)

/-- A last point's output: chunk 0. -/
theorem last0_apply : k0_pay25 (k0_pay22 acc h wg wu wd) x (k0_pay23 g) (k0_pay24 acc h wg wu wd) (ix2 r l)
    = finish (x (ix2 r l)) (fun k => acc (ix2 r k) + blockTerm (fun k => h (ix2 r k)) wg wu wd k) (fun k => g (ix2 0 k)) l := by
  unfold finish blockTerm Maths.gated Maths.rmsScale
  simp only [← Maths.sigmoid_eq]
  pointwise [k0_pay25, k0_pay22, k0_pay23, k0_pay24]

/-- A last point's output: chunk 1. -/
theorem last1_apply : k0_pay29 (k0_pay26 acc h wg wu wd) x (k0_pay27 g) (k0_pay28 acc h wg wu wd) (ix2 r l)
    = finish (x (ix2 r l)) (fun k => acc (ix2 r k) + blockTerm (fun k => h (ix2 r k)) wg wu wd k) (fun k => g (ix2 0 k)) l := by
  unfold finish blockTerm Maths.gated Maths.rmsScale
  simp only [← Maths.sigmoid_eq]
  pointwise [k0_pay29, k0_pay26, k0_pay27, k0_pay28]

/-- A last point's output: chunk 2. -/
theorem last2_apply : k0_pay31 (k0_pay30 acc h wg wu wd) x g (ix2 r l)
    = finish (x (ix2 r l)) (fun k => acc (ix2 r k) + blockTerm (fun k => h (ix2 r k)) wg wu wd k) (fun k => g (ix2 0 k)) l := by
  unfold finish blockTerm Maths.gated Maths.rmsScale
  simp only [← Maths.sigmoid_eq]
  pointwise [k0_pay31, k0_pay30]

/-- A last point's output: chunk 3. -/
theorem last3_apply : k0_pay3 (k0_pay32 acc) (k0_pay33 h wg wu) wd x g (ix2 r l)
    = finish (x (ix2 r l)) (fun k => acc (ix2 r k) + blockTerm (fun k => h (ix2 r k)) wg wu wd k) (fun k => g (ix2 0 k)) l := by
  unfold finish blockTerm Maths.gated Maths.rmsScale
  simp only [← Maths.sigmoid_eq]
  pointwise [k0_pay3, k0_pay32, k0_pay33]

end Last

end Cert.FeedForward

end
-- ==== Proof.FfnPoint.lean ====
/-
  The feed-forward part: what one grid point leaves in the output block and in the kept normed rows.
-/
module

public import proofs.«01_k».proof.Proof.FfnPay
public import proofs.«01_k».proof.Proof.Gen.FfnIdeal.Value
public import Idealize.ShloMosaic.Lib.Pipeline.ValueKit
public import Idealize.ShloMosaic.Lib.Pipeline.ReadBack

@[expose] public section

set_option maxRecDepth 16384

noncomputable section

namespace Cert.FeedForward

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ) (ρ : Dev nD → PrngReg) (c : Dev nD) (t : Fin cfg0.N)

/-- A row of a chunk of 256 rows is the block's row. -/
theorem chunk_row {e : EltTy} (v : Vec Ideal S1024x2048 e) (o : Nat) (hb : ∀ a, (![o, 0] : Fin 2 → Nat) a + (![256, 2048] : Fin 2 → Nat) a ≤ S1024x2048.size a)
    (r : Fin 1024) (a : Fin 256) (h0 : (r : Nat) = o + a) (k : Fin 2048) :
    View.ld v (Rect.unit ![o, 0] ![256, 2048] hb) (ix2 a k) = v (ix2 r k) :=
  View.ld_unit_apply_of _ _ _ _ _ _ fun j => by
    match j with
    | ⟨0, _⟩ => exact h0
    | ⟨1, _⟩ => exact (Nat.zero_add _).symm

/-- The finished entry depends only on its row of the residual, of the sum so far and of the kept rows. -/
theorem finish_congr {x x' : EReal} {acc acc' h h' : Fin 2048 → EReal} {wg wu : Vec Ideal S1x2048x512 .bf16}
    {wd : Vec Ideal S1x512x2048 .bf16} {g : Fin 2048 → EReal} {l : Fin 2048} (hx : x = x') (ha : ∀ k, acc k = acc' k)
    (hh : ∀ k, h k = h' k) : finish x (fun k => acc k + blockTerm h wg wu wd k) g l
      = finish x' (fun k => acc' k + blockTerm h' wg wu wd k) g l := by
  rw [hx, funext ha, funext hh]

/-- A first point leaves the block's term of the normed rows. -/
theorem first_out (h0 : t.val % 11 = 0) (r : Fin 1024) (l : Fin 2048) : (outsAt0 m c t.val t.isLt).1 (ix2 r l)
    = blockTerm (normRow (fun k => iblk m c 0 t (ix2 r k)) (fun k => iblk m c 1 t (ix2 0 k))) (iblk m c 3 t) (iblk m c 4 t)
        (iblk m c 5 t) l := by
  rw [outsAt0_A m c t h0 (by omega) (by omega)]
  generalize iblk m c 0 t = x0
  generalize iblk m c 1 t = x1
  generalize iblk m c 2 t = x2
  generalize iblk m c 3 t = x3
  generalize iblk m c 4 t = x4
  generalize iblk m c 5 t = x5
  dsimp only
  frame_out
  generalize hy : ix2 r l = y
  canon_tiles x h
  all_goals subst hy
  · obtain ⟨a, b, rfl⟩ : ∃ (a : Fin 256) (b : Fin 2048), x = ix2 a b := ⟨x 0, x 1, eq_ix2 x⟩
    obtain rfl : l = b := Fin.ext h1
    replace h0 : (r : Nat) = 768 + a := h0
    refine (first3_apply _ _ _ _ _ a l).trans ?_
    exact congrArg (fun h => blockTerm (normRow h fun k => x1 (ix2 0 k)) x3 x4 x5 l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 512 + a := h0
    refine (first2_apply _ _ _ _ _ a l).trans ?_
    exact congrArg (fun h => blockTerm (normRow h fun k => x1 (ix2 0 k)) x3 x4 x5 l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 256 + a := h0
    refine (first1_apply _ _ _ _ _ a l).trans ?_
    exact congrArg (fun h => blockTerm (normRow h fun k => x1 (ix2 0 k)) x3 x4 x5 l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 0 + a := h0.trans (Nat.zero_add _).symm
    refine (first0_apply _ _ _ _ _ a l).trans ?_
    exact congrArg (fun h => blockTerm (normRow h fun k => x1 (ix2 0 k)) x3 x4 x5 l) (funext fun k => chunk_row x0 _ _ r a h0 k)

/-- A first point keeps the normed rows. -/
theorem first_kept (h0 : t.val % 11 = 0) (r : Fin 1024) (l : Fin 2048) : (outsAt0 m c t.val t.isLt).2 (ix2 r l)
    = normRow (fun k => iblk m c 0 t (ix2 r k)) (fun k => iblk m c 1 t (ix2 0 k)) l := by
  rw [outsAt0_A m c t h0 (by omega) (by omega)]
  generalize iblk m c 0 t = x0
  generalize iblk m c 1 t = x1
  generalize iblk m c 2 t = x2
  generalize iblk m c 3 t = x3
  generalize iblk m c 4 t = x4
  generalize iblk m c 5 t = x5
  dsimp only
  frame_out
  generalize hy : ix2 r l = y
  canon_tiles x h
  all_goals subst hy
  · obtain ⟨a, b, rfl⟩ : ∃ (a : Fin 256) (b : Fin 2048), x = ix2 a b := ⟨x 0, x 1, eq_ix2 x⟩
    obtain rfl : l = b := Fin.ext h1
    replace h0 : (r : Nat) = 768 + a := h0
    refine (keep3_apply _ _ a l).trans ?_
    exact congrArg (fun h => normRow h (fun k => x1 (ix2 0 k)) l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 512 + a := h0
    refine (keep2_apply _ _ a l).trans ?_
    exact congrArg (fun h => normRow h (fun k => x1 (ix2 0 k)) l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 256 + a := h0
    refine (keep1_apply _ _ a l).trans ?_
    exact congrArg (fun h => normRow h (fun k => x1 (ix2 0 k)) l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 0 + a := h0.trans (Nat.zero_add _).symm
    refine (keep0_apply _ _ a l).trans ?_
    exact congrArg (fun h => normRow h (fun k => x1 (ix2 0 k)) l) (funext fun k => chunk_row x0 _ _ r a h0 k)

/-- A middle point adds the block's term of the kept rows to what the point before left. -/
theorem middle_out (h0 : 1 ≤ t.val % 11 ∧ t.val % 11 ≤ 9) (r : Fin 1024) (l : Fin 2048) :
    (outsAt0 m c t.val t.isLt).1 (ix2 r l)
      = (outsAt0 m c (t.val - 1) (Nat.lt_of_le_of_lt (Nat.sub_le _ _) t.isLt)).1 (ix2 r l)
        + blockTerm (fun k => (outsAt0 m c (t.val - 1) (Nat.lt_of_le_of_lt (Nat.sub_le _ _) t.isLt)).2 (ix2 r k))
          (iblk m c 3 t) (iblk m c 4 t) (iblk m c 5 t) l := by
  rw [outsAt0_B m c t (by omega) h0 (by omega)]
  generalize outsAt0 m c (t.val - 1) (Nat.lt_of_le_of_lt (Nat.sub_le _ _) t.isLt) = prev
  generalize iblk m c 0 t = x0
  generalize iblk m c 1 t = x1
  generalize iblk m c 2 t = x2
  generalize iblk m c 3 t = x3
  generalize iblk m c 4 t = x4
  generalize iblk m c 5 t = x5
  dsimp only
  frame_out
  rw [read_unread_whole, middle_apply]

/-- A middle point keeps the normed rows of the point before. -/
theorem middle_kept (h0 : 1 ≤ t.val % 11 ∧ t.val % 11 ≤ 9) :
    (outsAt0 m c t.val t.isLt).2 = (outsAt0 m c (t.val - 1) (Nat.lt_of_le_of_lt (Nat.sub_le _ _) t.isLt)).2 := by
  rw [outsAt0_B m c t (by omega) h0 (by omega)]
  rfl

/-- A last point leaves the layer's output. -/
theorem last_out (h0 : t.val % 11 = 10) (r : Fin 1024) (l : Fin 2048) :
    (outsAt0 m c t.val t.isLt).1 (ix2 r l)
      = finish (iblk m c 0 t (ix2 r l))
          (fun k => (outsAt0 m c (t.val - 1) (Nat.lt_of_le_of_lt (Nat.sub_le _ _) t.isLt)).1 (ix2 r k)
            + blockTerm (fun k => (outsAt0 m c (t.val - 1) (Nat.lt_of_le_of_lt (Nat.sub_le _ _) t.isLt)).2 (ix2 r k))
              (iblk m c 3 t) (iblk m c 4 t) (iblk m c 5 t) k)
          (fun k => iblk m c 2 t (ix2 0 k)) l := by
  rw [outsAt0_C m c t (by omega) (by omega) h0]
  generalize outsAt0 m c (t.val - 1) (Nat.lt_of_le_of_lt (Nat.sub_le _ _) t.isLt) = prev
  generalize iblk m c 0 t = x0
  generalize iblk m c 1 t = x1
  generalize iblk m c 2 t = x2
  generalize iblk m c 3 t = x3
  generalize iblk m c 4 t = x4
  generalize iblk m c 5 t = x5
  dsimp only
  frame_open
  simp (disch := decide) only [↓ View.readCov_skip, ↓ View.readCov_cons_toLoadRect, ↓ View.readCov_fill]
  frame_out
  rw [read_unread_whole]
  generalize hy : ix2 r l = y
  canon_tiles x h
  all_goals subst hy
  · obtain ⟨a, b, rfl⟩ : ∃ (a : Fin 256) (b : Fin 2048), x = ix2 a b := ⟨x 0, x 1, eq_ix2 x⟩
    obtain rfl : l = b := Fin.ext h1
    replace h0 : (r : Nat) = 768 + a := h0
    refine (last3_apply _ _ _ _ _ _ _ a l).trans ?_
    exact finish_congr (chunk_row x0 _ _ r a h0 l) (fun k => chunk_row prev.1 _ _ r a h0 k) (fun k => chunk_row prev.2 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 512 + a := h0
    refine (last2_apply _ _ _ _ _ _ _ a l).trans ?_
    exact finish_congr (chunk_row x0 _ _ r a h0 l) (fun k => chunk_row prev.1 _ _ r a h0 k) (fun k => chunk_row prev.2 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 256 + a := h0
    refine (last1_apply _ _ _ _ _ _ _ a l).trans ?_
    exact finish_congr (chunk_row x0 _ _ r a h0 l) (fun k => chunk_row prev.1 _ _ r a h0 k) (fun k => chunk_row prev.2 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 0 + a := h0.trans (Nat.zero_add _).symm
    refine (last0_apply _ _ _ _ _ _ _ a l).trans ?_
    exact finish_congr (chunk_row x0 _ _ r a h0 l) (fun k => chunk_row prev.1 _ _ r a h0 k) (fun k => chunk_row prev.2 _ _ r a h0 k)

end Cert.FeedForward

end
-- ==== Proof.FfnResult.lean ====
/-
  The feed-forward part: the result as a function of the arguments, and the sum over the hidden units cut into the
  eleven stretches of 512 that the grid walks.
-/
module

public import proofs.«01_k».proof.Proof.FfnPay
public import Idealize.ShloMosaic.Lib.Pipeline.ValueKit

@[expose] public section

set_option maxRecDepth 16384

noncomputable section

namespace Cert.FeedForward

open Idealize.ShloMosaic Idealize.ShloMosaic.TcCoe Idealize.SL.Sem
open Cert.FfnIdeal Cert.FfnIdeal.Gen

variable (x : FVec Ideal S16384x2048 .f32) (g : FVec Ideal S2x4x2048 .f32) (wg wu : FVec Ideal S2x2048x5632 .f32)
  (wd : FVec Ideal S2x5632x2048 .f32)

/-- Row `R` of the input after the first norm. -/
def normed (R : Fin 16384) : Fin 2048 → EReal := normRow (fun k => x (ix2 R k)) (fun k => g (ix3 1 2 k))

/-- What hidden unit `f` adds to the output at row `R`, column `l`. -/
def unitTerm (R : Fin 16384) (l : Fin 2048) (f : Fin 5632) : EReal :=
  Maths.gated (normed x g R) (fun k => wg (ix3 1 k f)) (fun k => wu (ix3 1 k f)) * wd (ix3 1 f l)

/-- The feed-forward product at row `R`, column `l`. -/
def ffn (R : Fin 16384) (l : Fin 2048) : EReal := ∑ f : Fin 5632, unitTerm x g wg wu wd R l f

/-- The result: the residual plus the normed feed-forward product. -/
def result : FVec Ideal S16384x2048 .f32 := fun i =>
  finish (x (ix2 (i 0) (i 1))) (ffn x g wg wu wd (i 0)) (fun k => g (ix3 1 3 k)) (i 1)

/-- What the hidden units `512 j … 512 j + 511` add. -/
def stretch (R : Fin 16384) (l : Fin 2048) (j : Fin 11) : EReal :=
  ∑ f : Fin 512, unitTerm x g wg wu wd R l ⟨j.val * 512 + f.val, by omega⟩

/-- The stretches up to the `n`-th. -/
def upTo (R : Fin 16384) (l : Fin 2048) (n : Nat) : EReal :=
  ∑ j ∈ Finset.range (n + 1), if h : j < 11 then stretch x g wg wu wd R l ⟨j, h⟩ else 0

theorem upTo_zero (R : Fin 16384) (l : Fin 2048) : upTo x g wg wu wd R l 0 = stretch x g wg wu wd R l 0 := by
  simp [upTo]

theorem upTo_succ (R : Fin 16384) (l : Fin 2048) (n : Nat) (h : n + 1 < 11) :
    upTo x g wg wu wd R l (n + 1) = upTo x g wg wu wd R l n + stretch x g wg wu wd R l ⟨n + 1, h⟩ := by
  unfold upTo
  rw [Finset.sum_range_succ, dif_pos h]

theorem upTo_all (R : Fin 16384) (l : Fin 2048) : upTo x g wg wu wd R l 10 = ffn x g wg wu wd R l := by
  unfold upTo ffn
  rw [Finset.sum_range]
  exact (Finset.sum_congr rfl fun j _ => dif_pos j.isLt).trans
    (Fin.sum_mul_add_congr (L := 5632) (S := 11) (n := 512) fun s k hl => rfl)

end Cert.FeedForward

end
-- ==== Proof.FfnValue.lean ====
/-
  The feed-forward part: what the result array holds after the run.
-/
module

public import proofs.«01_k».proof.Proof.FfnPoint
public import proofs.«01_k».proof.Proof.FfnResult

@[expose] public section

set_option maxRecDepth 16384

noncomputable section

namespace Cert.FeedForward

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ) (ρ : Dev nD → PrngReg) (c : Dev nD)

/-- The arguments, read off the memory. -/
abbrev argX : FVec Ideal S16384x2048 .f32 := m ((c : Thread nD τ).loc main_arg0)
abbrev argG : FVec Ideal S2x4x2048 .f32 := m ((c : Thread nD τ).loc main_arg1)
abbrev argWg : FVec Ideal S2x2048x5632 .f32 := m ((c : Thread nD τ).loc main_arg2)
abbrev argWu : FVec Ideal S2x2048x5632 .f32 := m ((c : Thread nD τ).loc main_arg3)
abbrev argWd : FVec Ideal S2x5632x2048 .f32 := m ((c : Thread nD τ).loc main_arg4)

/-- Where the windows lie at point `t`: block of rows `t / 11`, stretch of hidden units `t % 11`. -/
theorem idx : ∀ t : Fin cfg0.N, win0_0.index t = ![t.val / 11, 0] ∧ win0_1.index t = ![0, 0] ∧ win0_2.index t = ![0, 0]
    ∧ win0_3.index t = ![1, 0, t.val % 11] ∧ win0_4.index t = ![1, 0, t.val % 11] ∧ win0_5.index t = ![1, t.val % 11, 0]
    ∧ win0_6.index t = ![t.val / 11, 0] :=
  (by decide +kernel : ∀ t : Fin grid0.N, win0_0.index t = ![t.val / 11, 0] ∧ win0_1.index t = ![0, 0]
    ∧ win0_2.index t = ![0, 0] ∧ win0_3.index t = ![1, 0, t.val % 11] ∧ win0_4.index t = ![1, 0, t.val % 11]
    ∧ win0_5.index t = ![1, t.val % 11, 0] ∧ win0_6.index t = ![t.val / 11, 0])

theorem N_eq : cfg0.N = 176 := by decide +kernel

/-- The row of the array that row `r` of point `t`'s block is. -/
def rowOf (t : Fin cfg0.N) (r : Fin 1024) : Fin 16384 := ⟨t.val / 11 * 1024 + r.val, by have := t.isLt; have := N_eq; omega⟩

variable (t : Fin cfg0.N)

theorem blk_x (r : Fin 1024) (k : Fin 2048) : iblk m c 0 t (ix2 r k) = argX m c (ix2 (rowOf t r) k) := by
  obtain ⟨h0, h1, h2, h3, h4, h5, h6⟩ := idx t
  unfold argX rowOf
  blk_point [iblk, V, h0]

theorem blk_gin (k : Fin 2048) : iblk m c 1 t (ix2 0 k) = argG m c (ix3 1 2 k) := by
  obtain ⟨h0, h1, h2, h3, h4, h5, h6⟩ := idx t
  unfold argG
  blk_point [iblk, V, h1]

theorem blk_gout (k : Fin 2048) : iblk m c 2 t (ix2 0 k) = argG m c (ix3 1 3 k) := by
  obtain ⟨h0, h1, h2, h3, h4, h5, h6⟩ := idx t
  unfold argG
  blk_point [iblk, V, h2]

theorem blk_wg (k : Fin 2048) (f : Fin 512) :
    iblk m c 3 t (ix3 0 k f) = argWg m c (ix3 1 k ⟨t.val % 11 * 512 + f.val, by omega⟩) := by
  obtain ⟨h0, h1, h2, h3, h4, h5, h6⟩ := idx t
  unfold argWg
  blk_point [iblk, V, h3]

theorem blk_wu (k : Fin 2048) (f : Fin 512) :
    iblk m c 4 t (ix3 0 k f) = argWu m c (ix3 1 k ⟨t.val % 11 * 512 + f.val, by omega⟩) := by
  obtain ⟨h0, h1, h2, h3, h4, h5, h6⟩ := idx t
  unfold argWu
  blk_point [iblk, V, h4]

theorem blk_wd (f : Fin 512) (l : Fin 2048) :
    iblk m c 5 t (ix3 0 f l) = argWd m c (ix3 1 ⟨t.val % 11 * 512 + f.val, by omega⟩ l) := by
  obtain ⟨h0, h1, h2, h3, h4, h5, h6⟩ := idx t
  unfold argWd
  blk_point [iblk, V, h5]

/-- A point's block term, over the normed row of the array, is the stretch it walks. -/
theorem blockTerm_eq (r : Fin 1024) (l : Fin 2048) :
    blockTerm (normed (argX m c) (argG m c) (rowOf t r)) (iblk m c 3 t) (iblk m c 4 t) (iblk m c 5 t) l
      = stretch (argX m c) (argG m c) (argWg m c) (argWu m c) (argWd m c) (rowOf t r) l ⟨t.val % 11, by omega⟩ := by
  unfold blockTerm stretch unitTerm
  refine Finset.sum_congr rfl fun f _ => ?_
  rw [blk_wd]
  congr 2
  · exact funext fun k => blk_wg m c t k f
  · exact funext fun k => blk_wu m c t k f

/-- The row a first point norms is the normed row of the array. -/
theorem normRow_eq (r : Fin 1024) : normRow (fun k => iblk m c 0 t (ix2 r k)) (fun k => iblk m c 1 t (ix2 0 k))
    = normed (argX m c) (argG m c) (rowOf t r) := by
  unfold normed
  congr 1
  · exact funext fun k => blk_x m c t r k
  · exact funext fun k => blk_gin m c t k

/-- After any point but a last one, the output block holds the stretches walked so far and the kept rows are the normed
    rows. -/
theorem sofar (n : Nat) : ∀ (h : n < cfg0.N), n % 11 ≤ 9 → ∀ (r : Fin 1024) (l : Fin 2048),
    (outsAt0 m c n h).1 (ix2 r l)
        = upTo (argX m c) (argG m c) (argWg m c) (argWu m c) (argWd m c) (rowOf ⟨n, h⟩ r) l (n % 11)
      ∧ (outsAt0 m c n h).2 (ix2 r l) = normed (argX m c) (argG m c) (rowOf ⟨n, h⟩ r) l := by
  induction n with
  | zero =>
    intro h _ r l
    have a := first_out m c ⟨0, h⟩ rfl r l
    have b := first_kept m c ⟨0, h⟩ rfl r l
    rw [normRow_eq] at a b
    rw [blockTerm_eq] at a
    exact ⟨a.trans (upTo_zero ..).symm, b⟩
  | succ n ih =>
    intro h hn r l
    by_cases h0 : (n + 1) % 11 = 0
    · have a := first_out m c ⟨n + 1, h⟩ h0 r l
      have b := first_kept m c ⟨n + 1, h⟩ h0 r l
      rw [normRow_eq] at a b
      rw [blockTerm_eq] at a
      refine ⟨a.trans ?_, b⟩
      simp only [h0]
      exact (upTo_zero ..).symm
    · have hrow : rowOf ⟨n + 1, h⟩ r = rowOf ⟨n, by omega⟩ r := Fin.ext (by show (n + 1) / 11 * 1024 + _ = n / 11 * 1024 + _; omega)
      have hm : (n + 1) % 11 = n % 11 + 1 := by omega
      have prev := ih (by omega) (by omega) r
      have a := middle_out m c ⟨n + 1, h⟩ ⟨by show 1 ≤ (n + 1) % 11; omega, hn⟩ r l
      have b := middle_kept m c ⟨n + 1, h⟩ ⟨by show 1 ≤ (n + 1) % 11; omega, hn⟩
      have hk : (fun k => (outsAt0 m c n (by omega)).2 (ix2 r k)) = normed (argX m c) (argG m c) (rowOf ⟨n + 1, h⟩ r) :=
        funext fun k => (prev k).2.trans (by rw [hrow])
      refine ⟨a.trans ?_, ?_⟩
      · show (outsAt0 m c n _).1 (ix2 r l) + blockTerm (fun k => (outsAt0 m c n _).2 (ix2 r k)) _ _ _ l = _
        rw [hk, blockTerm_eq, (prev l).1, hrow]
        simp only [hm]
        exact (upTo_succ _ _ _ _ _ _ _ _ (by omega)).symm
      · rw [b]
        exact (prev l).2.trans (by rw [hrow])

/-- A last point leaves the result's rows. -/
theorem last_eq (h0 : t.val % 11 = 10) (r : Fin 1024) (l : Fin 2048) : (outsAt0 m c t.val t.isLt).1 (ix2 r l)
    = result (argX m c) (argG m c) (argWg m c) (argWu m c) (argWd m c) (ix2 (rowOf t r) l) := by
  have hlt : t.val - 1 < cfg0.N := by omega
  have hrow : rowOf ⟨t.val - 1, hlt⟩ r = rowOf t r := Fin.ext (by show (t.val - 1) / 11 * 1024 + _ = t.val / 11 * 1024 + _; omega)
  have prev := sofar m c (t.val - 1) hlt (by omega) r
  have hk : (fun k => (outsAt0 m c (t.val - 1) hlt).2 (ix2 r k)) = normed (argX m c) (argG m c) (rowOf t r) :=
    funext fun k => (prev k).2.trans (by rw [hrow])
  rw [last_out m c t h0 r l, hk]
  show _ = finish (argX m c (ix2 (rowOf t r) l)) (ffn (argX m c) (argG m c) (argWg m c) (argWu m c) (argWd m c) (rowOf t r))
    (fun k => argG m c (ix3 1 3 k)) l
  congr 1
  · exact blk_x m c t r l
  · funext k
    rw [blockTerm_eq, (prev k).1, hrow, ← upTo_all, show (t.val - 1) % 11 = 9 by omega,
      upTo_succ _ _ _ _ _ _ _ 9 (by omega)]
    simp only [h0]
  · exact funext fun k => blk_gout m c t k

/-- Only last points write their block back. -/
theorem flush_last : ∀ t : Fin cfg0.N, (cfg0.win 6).flush t = true → t.val % 11 = 10 :=
  (by decide +kernel : ∀ t : Fin grid0.N, win0_6.flush t = true → t.val % 11 = 10)

/-- After the run the result array holds the result of the arguments. -/
theorem final : (dats m 0 c).arrAt 6 cfg0.N = result (argX m c) (argG m c) (argWg m c) (argWu m c) (argWd m c) := by
  refine (dats m 0 c).arrAt_eq_of_covers 6 _ (by decide +kernel) fun t hf y => ?_
  blk_simp
  rw [after0_6]
  idx_vars y
  rw [last_eq m c t (flush_last t hf)]
  obtain ⟨h0, h1, h2, h3, h4, h5, h6⟩ := idx t
  refine congrArg (result (argX m c) (argG m c) (argWg m c) (argWu m c) (argWd m c)) ?_
  unfold rowOf
  blk_ext [h6]

/-- The run of the kernel: the result array holds the result of the arguments, and these are unchanged. -/
theorem run : θ_run defs (onTc (τ := τ) (main (F := Ideal))) ⟨m, fun _ => 0, ρ⟩ fun r => ∀ c : Dev nD,
      r.2.mem ((c : Thread nD τ).loc main_v7) = result (m ((c : Thread nD τ).loc main_arg0))
          (m ((c : Thread nD τ).loc main_arg1)) (m ((c : Thread nD τ).loc main_arg2)) (m ((c : Thread nD τ).loc main_arg3))
          (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.FfnIdeal.Value.run_blocks (F := Ideal) m ρ)

end Cert.FeedForward

end
-- ==== Proof.RefNorm.lean ====
/-
  The factor of the references' RMS norm: the composed term over an array of rows, read at an index.
-/
module

public import proofs.«01_k».proof.Proof.Maths
public import proofs.«01_k».proof.Proof.Gen.OutRefIdeal
public import Idealize.ShloMosaic.Lib.Pointwise

@[expose] public section

set_option maxRecDepth 16384

noncomputable section

namespace Cert.RefNorm

open Idealize.ShloMosaic
open Cert.OutRefIdeal Cert.OutRefIdeal.Gen

/-- The reference's norm factor of every row, broadcast along the row. -/
def refScale (p : FVec Ideal S16384x2048 .f32) : FVec Ideal S16384x2048 .f32 :=
  broadcastInDim S16384x2048 ![0, 1] bcast_S16384x1_S16384x2048_0_1 (Host.rsqrt (addf (Host.divf
    (broadcastInDim S16384x1 ![0] bcast_S16384_S16384x1_0 (Host.reduceAdd (mulf p p) (constant S_ .f32 0x00000000#32)
      reducesTo_S16384x2048_S16384_d1 h_S_))
    (broadcastInDim S16384x1 ![] bcast_S_S16384x1 (constant S_ .f32 0x45000000#32)))
    (broadcastInDim S16384x1 ![] bcast_S_S16384x1 (constant S_ .f32 0x358637BD#32))))

theorem refScale_apply (p : FVec Ideal S16384x2048 .f32) (r : Fin 16384) (l : Fin 2048) :
    refScale p (ix2 r l) = Maths.rmsScale (fun l => p (ix2 r l)) := by
  unfold refScale Maths.rmsScale
  pointwise

end Cert.RefNorm

end
-- ==== Proof.FfnRef.lean ====
/-
  The feed-forward part: what the reference computes is the result.
-/
module

public import proofs.«01_k».proof.Proof.FfnResult
public import proofs.«01_k».proof.Proof.RefNorm
public import proofs.«01_k».proof.Proof.Gen.FfnRefIdeal.Run
public import Idealize.ShloMosaic.Lib.Claim

@[expose] public section

set_option maxRecDepth 16384

noncomputable section

namespace Cert.FeedForward

open Idealize.ShloMosaic Idealize.ShloMosaic.TcCoe Idealize.SL.Sem
open Cert.FfnRefIdeal Cert.FfnRefIdeal.Gen

/-- The reference's weights of the first norm, broadcast to every row. -/
def refWeightIn (a1 : FVec Ideal S2x4x2048 .f32) : FVec Ideal S16384x2048 .f32 :=
  broadcastInDim S16384x2048 ![0, 1] bcast_S1x2048_S16384x2048_0_1 (broadcastInDim S1x2048 ![1] bcast_S2048_S1x2048_1
    (shapeCast S2048 (extractStridedSlice S1x1x2048 ![1, 2, 0] a1 slices_S2x4x2048_S1x1x2048_1_2_0)
      shapeCasts_S1x1x2048_S2048))

/-- The reference's weights of the second norm, broadcast to every row. -/
def refWeightOut (a1 : FVec Ideal S2x4x2048 .f32) : FVec Ideal S16384x2048 .f32 :=
  broadcastInDim S16384x2048 ![0, 1] bcast_S1x2048_S16384x2048_0_1 (broadcastInDim S1x2048 ![1] bcast_S2048_S1x2048_1
    (shapeCast S2048 (extractStridedSlice S1x1x2048 ![1, 3, 0] a1 slices_S2x4x2048_S1x1x2048_1_3_0)
      shapeCasts_S1x1x2048_S2048))

/-- The reference's normed input. -/
def refNormed (a0 : FVec Ideal S16384x2048 .f32) (a1 : FVec Ideal S2x4x2048 .f32) : FVec Ideal S16384x2048 .f32 :=
  mulf (mulf a0 (RefNorm.refScale a0)) (refWeightIn a1)

/-- The reference's product of rows `h` with the second layer of a stack of weights. -/
def refUp (h : FVec Ideal S16384x2048 .f32) (w : FVec Ideal S2x2048x5632 .f32) : FVec Ideal S16384x5632 .f32 :=
  Host.dotGeneral dot_S16384x2048_S2048x5632_S16384x5632_1_0_0_1_n_n none h
    (shapeCast S2048x5632 (extractStridedSlice S1x2048x5632 ![1, 0, 0] w slices_S2x2048x5632_S1x2048x5632_1_0_0)
      shapeCasts_S1x2048x5632_S2048x5632)

/-- The reference's sigmoid. -/
def refSigmoid (z : FVec Ideal S16384x5632 .f32) : FVec Ideal S16384x5632 .f32 :=
  Host.divf (broadcastInDim S16384x5632 ![] bcast_S_S16384x5632 (constant S_ .f32 0x3F800000#32))
    (addf (broadcastInDim S16384x5632 ![] bcast_S_S16384x5632 (constant S_ .f32 0x3F800000#32)) (Host.exp (Host.negf z)))

/-- The reference's product back to the model's width. -/
def refDown (h : FVec Ideal S16384x5632 .f32) (w : FVec Ideal S2x5632x2048 .f32) : FVec Ideal S16384x2048 .f32 :=
  Host.dotGeneral dot_S16384x5632_S5632x2048_S16384x2048_1_0_0_1_n_n none h
    (shapeCast S5632x2048 (extractStridedSlice S1x5632x2048 ![1, 0, 0] w slices_S2x5632x2048_S1x5632x2048_1_0_0)
      shapeCasts_S1x5632x2048_S5632x2048)

/-- The reference's feed-forward product. -/
def refFfn (a0 : FVec Ideal S16384x2048 .f32) (a1 : FVec Ideal S2x4x2048 .f32) (a2 a3 : FVec Ideal S2x2048x5632 .f32)
    (a4 : FVec Ideal S2x5632x2048 .f32) : FVec Ideal S16384x2048 .f32 :=
  refDown (mulf (mulf (refUp (refNormed a0 a1) a2) (refSigmoid (refUp (refNormed a0 a1) a2))) (refUp (refNormed a0 a1) a3)) a4

theorem refWeightIn_apply (a1 : FVec Ideal S2x4x2048 .f32) (r : Fin 16384) (l : Fin 2048) :
    refWeightIn a1 (ix2 r l) = a1 (ix3 1 2 l) := by
  unfold refWeightIn
  pointwise

theorem refWeightOut_apply (a1 : FVec Ideal S2x4x2048 .f32) (r : Fin 16384) (l : Fin 2048) :
    refWeightOut a1 (ix2 r l) = a1 (ix3 1 3 l) := by
  unfold refWeightOut
  pointwise

theorem refNormed_apply (a0 : FVec Ideal S16384x2048 .f32) (a1 : FVec Ideal S2x4x2048 .f32) (r : Fin 16384) (l : Fin 2048) :
    refNormed a0 a1 (ix2 r l) = normed a0 a1 r l := by
  unfold refNormed normed normRow
  rw [ValueIdx.mulf_apply, ValueIdx.mulf_apply, RefNorm.refScale_apply, refWeightIn_apply]

theorem refUp_apply (h : FVec Ideal S16384x2048 .f32) (w : FVec Ideal S2x2048x5632 .f32) (r : Fin 16384) (f : Fin 5632) :
    refUp h w (ix2 r f) = ∑ k : Fin 2048, h (ix2 r k) * w (ix3 1 k f) := by
  unfold refUp
  pointwise

theorem refSigmoid_apply (z : FVec Ideal S16384x5632 .f32) (r : Fin 16384) (f : Fin 5632) :
    refSigmoid z (ix2 r f) = Ideal.logistic (z (ix2 r f)) := by
  rw [← Maths.sigmoid_eq, Ideal.ofBits_zero_f32, zero_sub]
  unfold refSigmoid
  pointwise

theorem refDown_apply (h : FVec Ideal S16384x5632 .f32) (w : FVec Ideal S2x5632x2048 .f32) (r : Fin 16384) (l : Fin 2048) :
    refDown h w (ix2 r l) = ∑ f : Fin 5632, h (ix2 r f) * w (ix3 1 f l) := by
  unfold refDown
  pointwise

theorem refFfn_apply (a0 : FVec Ideal S16384x2048 .f32) (a1 : FVec Ideal S2x4x2048 .f32) (a2 a3 : FVec Ideal S2x2048x5632 .f32)
    (a4 : FVec Ideal S2x5632x2048 .f32) (r : Fin 16384) (l : Fin 2048) :
    refFfn a0 a1 a2 a3 a4 (ix2 r l) = ffn a0 a1 a2 a3 a4 r l := by
  unfold refFfn ffn unitTerm Maths.gated
  rw [refDown_apply]
  simp only [ValueIdx.mulf_apply, refSigmoid_apply, refUp_apply, refNormed_apply]

/-- The reference's result is the result. -/
theorem ref_eq (a0 : FVec Ideal S16384x2048 .f32) (a1 : FVec Ideal S2x4x2048 .f32) (a2 a3 : FVec Ideal S2x2048x5632 .f32)
    (a4 : FVec Ideal S2x5632x2048 .f32) :
    addf a0 (mulf (mulf (refFfn a0 a1 a2 a3 a4) (RefNorm.refScale (refFfn a0 a1 a2 a3 a4))) (refWeightOut a1))
      = result a0 a1 a2 a3 a4 := by
  funext j
  idx_vars j
  rw [ValueIdx.addf_apply, ValueIdx.mulf_apply, ValueIdx.mulf_apply, refFfn_apply, RefNorm.refScale_apply, refWeightOut_apply]
  simp only [refFfn_apply]
  rfl

/-- What the reference's run leaves in its result, over the contents of its arguments, is the result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = result (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Cert.FfnRefIdeal.Value.run (F := Ideal) m ρ)
  exact ref_eq _ _ _ _ _

end Cert.FeedForward

end
-- ==== Proof.QkvPay.lean ====
/-
  The projection to queries, keys and values: what each stretch of one grid point's work computes, at an index.
-/
module

public import proofs.«01_k».proof.Proof.Maths
public import proofs.«01_k».proof.Proof.Gen.QkvIdeal.Skeleton
public import Idealize.ShloMosaic.Lib.Pointwise
public import Idealize.ShloMosaic.Lib.ValueIdx

@[expose] public section

set_option maxRecDepth 16384

noncomputable section

namespace Cert.QkvProj

open Idealize.ShloMosaic Idealize.ShloMosaic.TcCoe Idealize.SL.Sem
open Cert.QkvIdeal Cert.QkvIdeal.Gen

/-- A row normed: the row times its RMS factor times the norm's weights. -/
def normRow (x : Fin 2048 → EReal) (g : Fin 2048 → EReal) (k : Fin 2048) : EReal := x k * Maths.rmsScale x * g k

/-- A row's product with a block of the weights, times the block's factor `s`. -/
def scaled (s : EReal) (h : Fin 2048 → EReal) (w : Vec Ideal S2048x2048 .bf16) (l : Fin 2048) : EReal :=
  (∑ k : Fin 2048, h k * w (ix2 k l)) * s

/-- A later point's work: the kept rows times the block of the weights. -/
theorem later_apply (i : grid0.Coords) (h : Vec Ideal S1024x2048 .bf16) (w : Vec Ideal S2048x2048 .bf16) (r : Fin 1024)
    (l : Fin 2048) : k0_pay6 (F := Ideal) i h w (ix2 r l) = scaled (k0_pay1 (F := Ideal) i) (fun k => h (ix2 r k)) w l := by
  unfold scaled
  generalize hs : k0_pay1 (F := Ideal) i = s
  unfold k0_pay6
  rw [hs]
  pointwise

variable (i : grid0.Coords) (s : EReal) (x : Vec Ideal S256x2048 .f32) (g : Vec Ideal S1x2048 .f32)
  (w : Vec Ideal S2048x2048 .bf16) (r : Fin 256) (l : Fin 2048)

theorem keep0_apply : k0_pay8 x g (ix2 r l) = normRow (fun k => x (ix2 r k)) (fun k => g (ix2 0 k)) l := by
  unfold normRow Maths.rmsScale
  pointwise [k0_pay8, k0_pay7]

theorem keep1_apply : k0_pay13 x (k0_pay10 g) (k0_pay11 x) (ix2 r l) = normRow (fun k => x (ix2 r k)) (fun k => g (ix2 0 k)) l := by
  unfold normRow Maths.rmsScale
  pointwise [k0_pay13, k0_pay12, k0_pay11, k0_pay10]

theorem keep2_apply : k0_pay16 x g (ix2 r l) = normRow (fun k => x (ix2 r k)) (fun k => g (ix2 0 k)) l := by
  unfold normRow Maths.rmsScale
  pointwise [k0_pay16, k0_pay15]

theorem keep3_apply : k0_pay4 x g (ix2 r l) = normRow (fun k => x (ix2 r k)) (fun k => g (ix2 0 k)) l := by
  unfold normRow Maths.rmsScale
  pointwise [k0_pay4, k0_pay3]

theorem first0_apply : k0_pay9 (F := Ideal) s x g w (ix2 r l)
    = scaled s (normRow (fun k => x (ix2 r k)) (fun k => g (ix2 0 k))) w l := by
  unfold scaled normRow Maths.rmsScale
  pointwise [k0_pay9, k0_pay7]

theorem first1_apply : k0_pay14 (F := Ideal) s x (k0_pay10 g) (k0_pay11 x) w (ix2 r l)
    = scaled s (normRow (fun k => x (ix2 r k)) (fun k => g (ix2 0 k))) w l := by
  unfold scaled normRow Maths.rmsScale
  pointwise [k0_pay14, k0_pay12, k0_pay11, k0_pay10]

theorem first2_apply : k0_pay2 (F := Ideal) (k0_pay17 x g w) (k0_pay18 s) (ix2 r l)
    = scaled s (normRow (fun k => x (ix2 r k)) (fun k => g (ix2 0 k))) w l := by
  unfold scaled normRow Maths.rmsScale
  pointwise [k0_pay2, k0_pay17, k0_pay18, k0_pay15]

theorem first3_apply : k0_pay5 (F := Ideal) i x g w (ix2 r l)
    = scaled (k0_pay1 (F := Ideal) i) (normRow (fun k => x (ix2 r k)) (fun k => g (ix2 0 k))) w l := by
  unfold scaled normRow Maths.rmsScale
  generalize hs : k0_pay1 (F := Ideal) i = s
  unfold k0_pay5
  rw [hs]
  pointwise [k0_pay3]

end Cert.QkvProj

end
-- ==== Proof.QkvValue.lean ====
/-
  The projection to queries, keys and values: what one grid point leaves in the output block and in the kept rows, and what
  the result array holds after the run.
-/
module

public import proofs.«01_k».proof.Proof.QkvPay
public import proofs.«01_k».proof.Proof.Gen.QkvIdeal.Value
public import Idealize.ShloMosaic.Lib.Pipeline.ValueKit
public import Idealize.ShloMosaic.Lib.Pipeline.ReadBack

@[expose] public section

set_option maxRecDepth 16384

noncomputable section

namespace Cert.QkvProj

open Idealize.ShloMosaic Idealize.ShloMosaic.TcCoe Idealize.SL.Sem
open Idealize.ShloMosaic.Pipeline (Dat)
open Cert.QkvIdeal Cert.QkvIdeal.Gen

/-- The factor of a column of the result: the queries' columns are scaled, the others not. -/
def factor (l : Fin 6144) : EReal :=
  if l.val < 2048 then Ideal.ofBits .f32 0x3E0293EE#32 else Ideal.ofBits .f32 0x3F800000#32

/-- The result: the normed rows times the weights, the queries' columns scaled. -/
def result (x : FVec Ideal S16384x2048 .f32) (g : FVec Ideal S2x4x2048 .f32) (w : FVec Ideal S1x2048x6144 .f32) :
    FVec Ideal S16384x6144 .bf16 := fun i =>
  (∑ k : Fin 2048, normRow (fun k => x (ix2 (i 0) k)) (fun k => g (ix3 1 0 k)) k * w (ix3 0 k (i 1))) * factor (i 1)

/-- A row of a chunk of 256 rows is the block's row. -/
theorem chunk_row {e : EltTy} (v : Vec Ideal S1024x2048 e) (o : Nat) (hb : ∀ a, (![o, 0] : Fin 2 → Nat) a + (![256, 2048] : Fin 2 → Nat) a ≤ S1024x2048.size a)
    (r : Fin 1024) (a : Fin 256) (h0 : (r : Nat) = o + a) (k : Fin 2048) :
    View.ld v (Rect.unit ![o, 0] ![256, 2048] hb) (ix2 a k) = v (ix2 r k) :=
  View.ld_unit_apply_of _ _ _ _ _ _ fun j => by
    match j with
    | ⟨0, _⟩ => exact h0
    | ⟨1, _⟩ => exact (Nat.zero_add _).symm

variable (m : (ℓ : Loc nD τ sig) → Buf (Elt Ideal) ℓ) (ρ : Dev nD → PrngReg) (c : Dev nD) (t : Fin cfg0.N)

/-- A first point leaves the normed rows times its block of the weights. -/
theorem first_out (h0 : t.val % 3 = 0) (r : Fin 1024) (l : Fin 2048) : (outsAt0 m c t.val t.isLt).1 (ix2 r l)
    = scaled (k0_pay1 (F := Ideal) (grid0.coords t)) (normRow (fun k => iblk m c 0 t (ix2 r k)) (fun k => iblk m c 1 t (ix2 0 k)))
        (iblk m c 2 t) l := by
  rw [outsAt0_A m c t h0 (by omega)]
  generalize iblk m c 0 t = x0
  generalize iblk m c 1 t = x1
  generalize iblk m c 2 t = x2
  dsimp only
  frame_out
  generalize hy : ix2 r l = y
  canon_tiles x h
  all_goals subst hy
  · obtain ⟨a, b, rfl⟩ : ∃ (a : Fin 256) (b : Fin 2048), x = ix2 a b := ⟨x 0, x 1, eq_ix2 x⟩
    obtain rfl : l = b := Fin.ext h1
    replace h0 : (r : Nat) = 768 + a := h0
    refine (first3_apply _ _ _ _ a l).trans ?_
    exact congrArg (fun h => scaled (k0_pay1 (F := Ideal) (grid0.coords t)) (normRow h fun k => x1 (ix2 0 k)) x2 l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 512 + a := h0
    refine (first2_apply _ _ _ _ a l).trans ?_
    exact congrArg (fun h => scaled (k0_pay1 (F := Ideal) (grid0.coords t)) (normRow h fun k => x1 (ix2 0 k)) x2 l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 256 + a := h0
    refine (first1_apply _ _ _ _ a l).trans ?_
    exact congrArg (fun h => scaled (k0_pay1 (F := Ideal) (grid0.coords t)) (normRow h fun k => x1 (ix2 0 k)) x2 l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 0 + a := h0.trans (Nat.zero_add _).symm
    refine (first0_apply _ _ _ _ a l).trans ?_
    exact congrArg (fun h => scaled (k0_pay1 (F := Ideal) (grid0.coords t)) (normRow h fun k => x1 (ix2 0 k)) x2 l) (funext fun k => chunk_row x0 _ _ r a h0 k)

/-- A first point keeps the normed rows. -/
theorem first_kept (h0 : t.val % 3 = 0) (r : Fin 1024) (l : Fin 2048) : (outsAt0 m c t.val t.isLt).2 (ix2 r l)
    = normRow (fun k => iblk m c 0 t (ix2 r k)) (fun k => iblk m c 1 t (ix2 0 k)) l := by
  rw [outsAt0_A m c t h0 (by omega)]
  generalize iblk m c 0 t = x0
  generalize iblk m c 1 t = x1
  generalize iblk m c 2 t = x2
  dsimp only
  frame_out
  generalize hy : ix2 r l = y
  canon_tiles x h
  all_goals subst hy
  · obtain ⟨a, b, rfl⟩ : ∃ (a : Fin 256) (b : Fin 2048), x = ix2 a b := ⟨x 0, x 1, eq_ix2 x⟩
    obtain rfl : l = b := Fin.ext h1
    replace h0 : (r : Nat) = 768 + a := h0
    refine (keep3_apply _ _ a l).trans ?_
    exact congrArg (fun h => normRow h (fun k => x1 (ix2 0 k)) l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 512 + a := h0
    refine (keep2_apply _ _ a l).trans ?_
    exact congrArg (fun h => normRow h (fun k => x1 (ix2 0 k)) l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 256 + a := h0
    refine (keep1_apply _ _ a l).trans ?_
    exact congrArg (fun h => normRow h (fun k => x1 (ix2 0 k)) l) (funext fun k => chunk_row x0 _ _ r a h0 k)
  · obtain ⟨a, b, rfl⟩ : ∃ (a : Fin 256) (b : Fin 2048), x = ix2 a b := ⟨x 0, x 1, eq_ix2 x⟩
    obtain rfl : l = b := Fin.ext h1
    replace h0 : (r : Nat) = 0 + a := h0.trans (Nat.zero_add _).symm
    refine (keep0_apply _ _ a l).trans ?_
    exact congrArg (fun h => normRow h (fun k => x1 (ix2 0 k)) l) (funext fun k => chunk_row x0 _ _ r a h0 k)

/-- A later point leaves the kept rows times its block of the weights. -/
theorem later_out (h0 : 1 ≤ t.val % 3) (r : Fin 1024) (l : Fin 2048) : (outsAt0 m c t.val t.isLt).1 (ix2 r l)
    = scaled (k0_pay1 (F := Ideal) (grid0.coords t)) (fun k => (outsAt0 m c (t.val - 1) (Nat.lt_of_le_of_lt (Nat.sub_le _ _) t.isLt)).2 (ix2 r k)) (iblk m c 2 t) l := by
  rw [outsAt0_B m c t (by omega) h0]
  generalize outsAt0 m c (t.val - 1) (Nat.lt_of_le_of_lt (Nat.sub_le _ _) t.isLt) = prev
  generalize iblk m c 0 t = x0
  generalize iblk m c 1 t = x1
  generalize iblk m c 2 t = x2
  dsimp only
  frame_out
  rw [read_unread_whole, later_apply]

/-- A later point keeps the rows of the point before. -/
theorem later_kept (h0 : 1 ≤ t.val % 3) : (outsAt0 m c t.val t.isLt).2 = (outsAt0 m c (t.val - 1) (Nat.lt_of_le_of_lt (Nat.sub_le _ _) t.isLt)).2 := by
  rw [outsAt0_B m c t (by omega) h0]
  rfl

/-- The arguments, read off the memory. -/
abbrev argX : FVec Ideal S16384x2048 .f32 := m ((c : Thread nD τ).loc main_arg0)
abbrev argG : FVec Ideal S2x4x2048 .f32 := m ((c : Thread nD τ).loc main_arg1)
abbrev argW : FVec Ideal S1x2048x6144 .f32 := m ((c : Thread nD τ).loc main_arg2)

/-- Where the windows lie at point `t`: block of rows `t / 3`, block of columns `t % 3`. -/
theorem idx : ∀ t : Fin cfg0.N, win0_0.index t = ![t.val / 3, 0] ∧ win0_1.index t = ![0, 0] ∧ win0_2.index t = ![0, t.val % 3]
    ∧ win0_3.index t = ![t.val / 3, t.val % 3] ∧ (grid0.coords t 1).val = t.val % 3 :=
  (by decide +kernel : ∀ t : Fin grid0.N, win0_0.index t = ![t.val / 3, 0] ∧ win0_1.index t = ![0, 0]
    ∧ win0_2.index t = ![0, t.val % 3] ∧ win0_3.index t = ![t.val / 3, t.val % 3] ∧ (grid0.coords t 1).val = t.val % 3)

theorem N_eq : cfg0.N = 48 := by decide +kernel

/-- The row of the array that row `r` of point `t`'s block is. -/
def rowOf (t : Fin cfg0.N) (r : Fin 1024) : Fin 16384 := ⟨t.val / 3 * 1024 + r.val, by have := t.isLt; have := N_eq; omega⟩

theorem blk_x (r : Fin 1024) (k : Fin 2048) : iblk m c 0 t (ix2 r k) = argX m c (ix2 (rowOf t r) k) := by
  obtain ⟨h0, h1, h2, h3, h4⟩ := idx t
  unfold argX rowOf
  blk_point [iblk, V, h0]

theorem blk_g (k : Fin 2048) : iblk m c 1 t (ix2 0 k) = argG m c (ix3 1 0 k) := by
  obtain ⟨h0, h1, h2, h3, h4⟩ := idx t
  unfold argG
  blk_point [iblk, V, h1]

theorem blk_w (k : Fin 2048) (l : Fin 2048) :
    iblk m c 2 t (ix2 k l) = argW m c (ix3 0 k ⟨t.val % 3 * 2048 + l.val, by omega⟩) := by
  obtain ⟨h0, h1, h2, h3, h4⟩ := idx t
  unfold argW
  blk_point [iblk, V, h2]

/-- Row `R` of the input after the norm. -/
def normed (x : FVec Ideal S16384x2048 .f32) (g : FVec Ideal S2x4x2048 .f32) (R : Fin 16384) : Fin 2048 → EReal :=
  normRow (fun k => x (ix2 R k)) (fun k => g (ix3 1 0 k))

theorem normRow_eq (r : Fin 1024) : normRow (fun k => iblk m c 0 t (ix2 r k)) (fun k => iblk m c 1 t (ix2 0 k))
    = normed (argX m c) (argG m c) (rowOf t r) := by
  unfold normed
  congr 1
  · exact funext fun k => blk_x m c t r k
  · exact funext fun k => blk_g m c t k

/-- The block's factor is its columns'. -/
theorem factor_eq (l : Fin 2048) : k0_pay1 (F := Ideal) (grid0.coords t) = factor ⟨t.val % 3 * 2048 + l.val, by omega⟩ := by
  obtain ⟨h0, h1, h2, h3, h4⟩ := idx t
  unfold k0_pay1 factor
  rw [h4]
  have h : t.val % 3 = 0 ∨ t.val % 3 = 1 ∨ t.val % 3 = 2 := by omega
  rcases h with h | h | h
  · rw [if_pos (by show t.val % 3 * 2048 + l.val < 2048; omega), h]; rfl
  · rw [if_neg (by show ¬t.val % 3 * 2048 + l.val < 2048; omega), h]; rfl
  · rw [if_neg (by show ¬t.val % 3 * 2048 + l.val < 2048; omega), h]; rfl

theorem scaled_eq (r : Fin 1024) (l : Fin 2048) :
    scaled (k0_pay1 (F := Ideal) (grid0.coords t)) (normed (argX m c) (argG m c) (rowOf t r)) (iblk m c 2 t) l
      = result (argX m c) (argG m c) (argW m c) (ix2 (rowOf t r) ⟨t.val % 3 * 2048 + l.val, by omega⟩) := by
  unfold scaled
  rw [factor_eq t l]
  show _ = (∑ k : Fin 2048, normed (argX m c) (argG m c) (rowOf t r) k * argW m c (ix3 0 k ⟨t.val % 3 * 2048 + l.val, _⟩)) * _
  congr 1
  exact Finset.sum_congr rfl fun k _ => by rw [blk_w]

/-- After every point the kept rows are the normed rows. -/
theorem kept (n : Nat) : ∀ (h : n < cfg0.N) (r : Fin 1024) (l : Fin 2048),
    (outsAt0 m c n h).2 (ix2 r l) = normed (argX m c) (argG m c) (rowOf ⟨n, h⟩ r) l := by
  induction n with
  | zero =>
    intro h r l
    have b := first_kept m c ⟨0, h⟩ rfl r l
    rwa [normRow_eq] at b
  | succ n ih =>
    intro h r l
    by_cases h0 : (n + 1) % 3 = 0
    · have b := first_kept m c ⟨n + 1, h⟩ h0 r l
      rwa [normRow_eq] at b
    · have hrow : rowOf ⟨n + 1, h⟩ r = rowOf ⟨n, by omega⟩ r := Fin.ext (by show (n + 1) / 3 * 1024 + _ = n / 3 * 1024 + _; omega)
      have b := later_kept m c ⟨n + 1, h⟩ (by show 1 ≤ (n + 1) % 3; omega)
      rw [b]
      exact (ih (by omega) r l).trans (by rw [hrow])

/-- Every point leaves its block of the result. -/
theorem out_eq (r : Fin 1024) (l : Fin 2048) : (outsAt0 m c t.val t.isLt).1 (ix2 r l)
    = result (argX m c) (argG m c) (argW m c) (ix2 (rowOf t r) ⟨t.val % 3 * 2048 + l.val, by omega⟩) := by
  by_cases h0 : t.val % 3 = 0
  · rw [first_out m c t h0, normRow_eq, scaled_eq]
  · have hlt : t.val - 1 < cfg0.N := by omega
    have hrow : rowOf ⟨t.val - 1, hlt⟩ r = rowOf t r := Fin.ext (by show (t.val - 1) / 3 * 1024 + _ = t.val / 3 * 1024 + _; omega)
    have hk : (fun k => (outsAt0 m c (t.val - 1) hlt).2 (ix2 r k)) = normed (argX m c) (argG m c) (rowOf t r) :=
      funext fun k => (kept m c (t.val - 1) hlt r k).trans (by rw [hrow])
    rw [later_out m c t (by omega), hk, scaled_eq]

/-- After the run the result array holds the result of the arguments. -/
theorem final : (dats m 0 c).arrAt 3 cfg0.N = result (argX m c) (argG m c) (argW m c) := by
  refine (dats m 0 c).arrAt_eq_of_covers 3 _ (by decide +kernel) fun t hf y => ?_
  blk_simp
  rw [after0_3]
  idx_vars y
  rw [out_eq m c t]
  obtain ⟨h0, h1, h2, h3, h4⟩ := idx t
  refine congrArg (result (argX m c) (argG m c) (argW m c)) ?_
  unfold rowOf
  blk_ext [h3]

/-- The run of the kernel: the result array holds the result of the arguments, and these are unchanged. -/
theorem run : θ_run defs (onTc (τ := τ) (main (F := Ideal))) ⟨m, fun _ => 0, ρ⟩ fun r => ∀ c : Dev nD,
      r.2.mem ((c : Thread nD τ).loc main_v5) = result (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.QkvIdeal.Value.run_blocks (F := Ideal) m ρ)

end Cert.QkvProj

end
-- ==== Proof.QkvRef.lean ====
/-
  The projection to queries, keys and values: what the reference computes is the result.
-/
module

public import proofs.«01_k».proof.Proof.QkvValue
public import proofs.«01_k».proof.Proof.RefNorm
public import proofs.«01_k».proof.Proof.Gen.QkvRefIdeal.Run
public import Idealize.ShloMosaic.Lib.Claim

@[expose] public section

set_option maxRecDepth 16384

noncomputable section

namespace Cert.QkvProj

open Idealize.ShloMosaic Idealize.ShloMosaic.TcCoe Idealize.SL.Sem
open Cert.QkvRefIdeal Cert.QkvRefIdeal.Gen

/-- The reference's norm weights, broadcast to every row. -/
def refWeight (a1 : FVec Ideal S2x4x2048 .f32) : FVec Ideal S16384x2048 .f32 :=
  broadcastInDim S16384x2048 ![0, 1] bcast_S1x2048_S16384x2048_0_1 (broadcastInDim S1x2048 ![1] bcast_S2048_S1x2048_1
    (shapeCast S2048 (extractStridedSlice S1x1x2048 ![1, 0, 0] a1 slices_S2x4x2048_S1x1x2048_1_0_0)
      shapeCasts_S1x1x2048_S2048))

/-- The reference's normed input. -/
def refNormed (a0 : FVec Ideal S16384x2048 .f32) (a1 : FVec Ideal S2x4x2048 .f32) : FVec Ideal S16384x2048 .f32 :=
  mulf (mulf a0 (RefNorm.refScale a0)) (refWeight a1)

/-- The reference's product of rows with the weights. -/
def refProd (h : FVec Ideal S16384x2048 .f32) (w : FVec Ideal S1x2048x6144 .f32) : FVec Ideal S16384x6144 .f32 :=
  Host.dotGeneral dot_S16384x2048_S2048x6144_S16384x6144_1_0_0_1_n_n none h (shapeCast S2048x6144 w shapeCasts_S1x2048x6144_S2048x6144)

/-- The reference's last lines: the product split in three, the first third scaled, and put together again. -/
def refJoin (p : FVec Ideal S16384x6144 .f32) : FVec Ideal S16384x6144 .bf16 :=
  truncf .bf16 (concatenate S16384x6144 1
    [⟨S16384x2048, mulf (extractStridedSlice S16384x2048 ![0, 0] p slices_S16384x6144_S16384x2048_0_0)
        (broadcastInDim S16384x2048 ![] bcast_S_S16384x2048 (constant S_ .f32 0x3E0293EE#32))⟩,
     ⟨S16384x2048, extractStridedSlice S16384x2048 ![0, 2048] p slices_S16384x6144_S16384x2048_0_2048⟩,
     ⟨S16384x2048, extractStridedSlice S16384x2048 ![0, 4096] p slices_S16384x6144_S16384x2048_0_4096⟩]
    concatenates_S16384x2048_S16384x2048_S16384x2048_S16384x6144_d1) bitsLt_bf16_f32

theorem refWeight_apply (a1 : FVec Ideal S2x4x2048 .f32) (r : Fin 16384) (l : Fin 2048) :
    refWeight a1 (ix2 r l) = a1 (ix3 1 0 l) := by
  unfold refWeight
  pointwise

theorem refNormed_apply (a0 : FVec Ideal S16384x2048 .f32) (a1 : FVec Ideal S2x4x2048 .f32) (r : Fin 16384) (l : Fin 2048) :
    refNormed a0 a1 (ix2 r l) = normed a0 a1 r l := by
  unfold refNormed normed normRow
  rw [ValueIdx.mulf_apply, ValueIdx.mulf_apply, RefNorm.refScale_apply, refWeight_apply]

theorem refProd_apply (h : FVec Ideal S16384x2048 .f32) (w : FVec Ideal S1x2048x6144 .f32) (r : Fin 16384) (l : Fin 6144) :
    refProd h w (ix2 r l) = ∑ k : Fin 2048, h (ix2 r k) * w (ix3 0 k l) := by
  unfold refProd
  pointwise

theorem refJoin_apply (p : FVec Ideal S16384x6144 .f32) (r : Fin 16384) (l : Fin 6144) :
    refJoin p (ix2 r l) = p (ix2 r l) * factor l := by
  unfold refJoin factor
  pointwise
  split
  · rfl
  · rw [mul_one]
    split <;> exact congrArg p (congrArg (ix2 r) (Fin.ext (by dsimp only; omega)))

/-- The reference's result is the result. -/
theorem ref_eq (a0 : FVec Ideal S16384x2048 .f32) (a1 : FVec Ideal S2x4x2048 .f32) (a2 : FVec Ideal S1x2048x6144 .f32) :
    refJoin (refProd (refNormed a0 a1) a2) = result a0 a1 a2 := by
  funext j
  idx_vars j
  rw [refJoin_apply, refProd_apply]
  simp only [refNormed_apply]
  rfl

/-- What the reference's run leaves in its result, over the contents of its arguments, is the result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.QkvRefIdeal.Value.run (F := Ideal) m ρ)
  exact ref_eq _ _ _

end Cert.QkvProj

end
-- ==== Proof.OutValue.lean ====
/-
  The output projection and the residual: what one block of rows computes, what the result array holds, what the
  reference computes, and that the two are one function of the arguments.
-/
module

public import proofs.«01_k».proof.Proof.RefNorm
public import proofs.«01_k».proof.Proof.Gen.OutIdeal.Value
public import proofs.«01_k».proof.Proof.Gen.OutRefIdeal.Run
public import Idealize.ShloMosaic.Lib.Pipeline.ValueKit
public import Idealize.ShloMosaic.Lib.Pointwise
public import Idealize.ShloMosaic.Lib.ValueIdx
public import Idealize.ShloMosaic.Lib.Claim

@[expose] public section

set_option maxRecDepth 16384

noncomputable section

namespace Cert.OutProj

open Idealize.ShloMosaic Idealize.ShloMosaic.TcCoe Idealize.SL.Sem
open Idealize.ShloMosaic.Pipeline (Dat)

section Kernel

open Cert.OutIdeal Cert.OutIdeal.Gen

/-- Row `r` of the product of the attention's output with the projection's weights. -/
def prod (o : FVec Ideal S16384x2048 .bf16) (w : FVec Ideal S1x2048x2048 .f32) (r : Fin 16384) (l : Fin 2048) : EReal :=
  ∑ k : Fin 2048, o (ix2 r k) * w (ix3 0 k l)

/-- The result: the residual plus the normed product, scaled by the norm's weights. -/
def result (o : FVec Ideal S16384x2048 .bf16) (w : FVec Ideal S1x2048x2048 .f32) (x : FVec Ideal S16384x2048 .f32)
    (g : FVec Ideal S2x4x2048 .f32) : FVec Ideal S16384x2048 .f32 := fun i =>
  x i + prod o w (i 0) (i 1) * Maths.rmsScale (prod o w (i 0)) * g (ix3 1 1 (i 1))

/-- What one block of rows computes, at an index. -/
theorem pay_apply (v0 : Vec Ideal S1024x2048 .bf16) (v1 : Vec Ideal S2048x2048 .bf16) (v4 : Vec Ideal S1024x2048 .f32)
    (v5 : Vec Ideal S1x2048 .f32) (r : Fin 1024) (l : Fin 2048) :
    k0_pay1 v0 v1 v4 v5 (ix2 r l) = v4 (ix2 r l)
      + (∑ k : Fin 2048, v0 (ix2 r k) * v1 (ix2 k l))
        * Maths.rmsScale (fun l => ∑ k : Fin 2048, v0 (ix2 r k) * v1 (ix2 k l)) * v5 (ix2 0 l) := by
  pointwise [k0_pay1, Maths.rmsScale]

variable (m : (ℓ : Loc nD τ sig) → Buf (Elt Ideal) ℓ) (ρ : Dev nD → PrngReg)

/-- Where the windows lie at point `t`: the rows of the two row windows and of the result are block `t`, the weights whole. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] :=
  (by decide +kernel : ∀ t : Fin grid0.N, win0_0.index t = ![t.val, 0] ∧ win0_1.index t = ![0, 0]
    ∧ win0_2.index t = ![t.val, 0] ∧ win0_3.index t = ![0, 0] ∧ win0_4.index t = ![t.val, 0])

/-- After the run the result array holds the result of the arguments. -/
theorem final (c : Dev nD) : (dats m 0 c).arrAt 4 cfg0.N
    = result (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  rw [pay_apply]
  unfold result prod Maths.rmsScale
  pointwise
  obtain ⟨h0, h1, h2, h3, h4⟩ := idx t
  blk_point [iblk, V, h0, h1, h2, h3, h4]

/-- The run of the kernel: the result array holds the result of the arguments, and these are unchanged. -/
theorem run : θ_run defs (onTc (τ := τ) (main (F := Ideal))) ⟨m, fun _ => 0, ρ⟩ fun r => ∀ c : Dev nD,
      r.2.mem ((c : Thread nD τ).loc main_v5) = result (m ((c : Thread nD τ).loc main_arg0))
          (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.OutIdeal.Value.run_blocks (F := Ideal) m ρ)

end Kernel

section Reference

open Cert.OutRefIdeal Cert.OutRefIdeal.Gen

/-- The reference's product of the attention's output with the weights. -/
def refProd (a0 : FVec Ideal S16384x2048 .bf16) (a1 : FVec Ideal S1x2048x2048 .f32) : FVec Ideal S16384x2048 .f32 :=
  Host.dotGeneral dot_S16384x2048_S2048x2048_S16384x2048_1_0_0_1_n_n none (extf .f32 a0 bitsLt_bf16_f32)
    (shapeCast _ a1 shapeCasts_S1x2048x2048_S2048x2048)

/-- The reference's norm weights, broadcast to every row. -/
def refWeight (a3 : FVec Ideal S2x4x2048 .f32) : FVec Ideal S16384x2048 .f32 :=
  broadcastInDim S16384x2048 ![0, 1] bcast_S1x2048_S16384x2048_0_1 (broadcastInDim S1x2048 ![1] bcast_S2048_S1x2048_1
    (shapeCast S2048 (extractStridedSlice S1x1x2048 ![1, 1, 0] a3 slices_S2x4x2048_S1x1x2048_1_1_0)
      shapeCasts_S1x1x2048_S2048))

theorem refProd_apply (a0 : FVec Ideal S16384x2048 .bf16) (a1 : FVec Ideal S1x2048x2048 .f32) (r : Fin 16384)
    (l : Fin 2048) : refProd a0 a1 (ix2 r l) = prod a0 a1 r l := by
  unfold refProd prod
  pointwise

theorem refWeight_apply (a3 : FVec Ideal S2x4x2048 .f32) (r : Fin 16384) (l : Fin 2048) :
    refWeight a3 (ix2 r l) = a3 (ix3 1 1 l) := by
  unfold refWeight
  pointwise

/-- The reference's result is the result. -/
theorem ref_eq (a0 : FVec Ideal S16384x2048 .bf16) (a1 : FVec Ideal S1x2048x2048 .f32) (a2 : FVec Ideal S16384x2048 .f32)
    (a3 : FVec Ideal S2x4x2048 .f32) :
    addf a2 (mulf (mulf (refProd a0 a1) (RefNorm.refScale (refProd a0 a1))) (refWeight a3)) = result a0 a1 a2 a3 := by
  funext j
  idx_vars j
  rw [ValueIdx.addf_apply, ValueIdx.mulf_apply, ValueIdx.mulf_apply, refProd_apply, RefNorm.refScale_apply, refWeight_apply]
  simp only [refProd_apply]
  rfl

/-- What the reference's run leaves in its result, over the contents of its arguments, is the result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = result (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.OutRefIdeal.Value.run (F := Ideal) m ρ)
  exact ref_eq _ _ _ _

end Reference

end Cert.OutProj

end
-- ==== Proof.OutAbValue.lean ====
/-
  The output projection of the recurrent and the state-space mixer, side by side, and the residual: what one block of rows computes, what the result array holds, what the
  reference computes, and that the two are one function of the arguments.
-/
module

public import proofs.«01_k».proof.Proof.RefNorm
public import proofs.«01_k».proof.Proof.Gen.OutAbIdeal.Value
public import proofs.«01_k».proof.Proof.Gen.OutAbRefIdeal.Run
public import Idealize.ShloMosaic.Lib.Pipeline.ValueKit
public import Idealize.ShloMosaic.Lib.Pointwise
public import Idealize.ShloMosaic.Lib.ValueIdx
public import Idealize.ShloMosaic.Lib.Claim

@[expose] public section

set_option maxRecDepth 16384

noncomputable section

namespace Cert.OutAbProj

open Idealize.ShloMosaic Idealize.ShloMosaic.TcCoe Idealize.SL.Sem
open Idealize.ShloMosaic.Pipeline (Dat)

section Kernel

open Cert.OutAbIdeal Cert.OutAbIdeal.Gen

/-- Row `r` of the product of the two mixers' outputs, side by side, with the projection's weights: the first output
    meets the upper half of the weights, the second the lower half. -/
def prod (oa ob : FVec Ideal S16384x1024 .bf16) (w : FVec Ideal S1x2048x2048 .f32) (r : Fin 16384) (l : Fin 2048) : EReal :=
  (∑ k : Fin 1024, oa (ix2 r k) * w (ix3 0 ⟨k.val, by omega⟩ l))
    + ∑ k : Fin 1024, ob (ix2 r k) * w (ix3 0 ⟨1024 + k.val, by omega⟩ l)

/-- The result: the residual plus the normed product, scaled by the norm's weights. -/
def result (oa ob : FVec Ideal S16384x1024 .bf16) (w : FVec Ideal S1x2048x2048 .f32) (x : FVec Ideal S16384x2048 .f32)
    (g : FVec Ideal S2x4x2048 .f32) : FVec Ideal S16384x2048 .f32 := fun i =>
  x i + prod oa ob w (i 0) (i 1) * Maths.rmsScale (prod oa ob w (i 0)) * g (ix3 0 1 (i 1))

/-- What one block of rows computes, at an index. -/
theorem pay_apply (v0 : Vec Ideal S1024x1024 .bf16) (v1 : Vec Ideal S1024x2048 .bf16) (v4 : Vec Ideal S1024x1024 .bf16)
    (v5 : Vec Ideal S1024x2048 .bf16) (v9 : Vec Ideal S1024x2048 .f32) (v10 : Vec Ideal S1x2048 .f32)
    (r : Fin 1024) (l : Fin 2048) :
    k0_pay1 v0 v1 v4 v5 v9 v10 (ix2 r l) = v9 (ix2 r l)
      + ((∑ k : Fin 1024, v0 (ix2 r k) * v1 (ix2 k l)) + ∑ k : Fin 1024, v4 (ix2 r k) * v5 (ix2 k l))
        * Maths.rmsScale (fun l => (∑ k : Fin 1024, v0 (ix2 r k) * v1 (ix2 k l)) + ∑ k : Fin 1024, v4 (ix2 r k) * v5 (ix2 k l))
        * v10 (ix2 0 l) := by
  pointwise [k0_pay1, Maths.rmsScale]

variable (m : (ℓ : Loc nD τ sig) → Buf (Elt Ideal) ℓ) (ρ : Dev nD → PrngReg)

/-- Where the windows lie at point `t`: the rows of the two outputs, of the residual and of the result are block `t`; the
    weights are read as their upper and their lower half. -/
theorem idx : ∀ t : Fin cfg0.N, win0_0.index t = ![t.val, 0] ∧ win0_1.index t = ![t.val, 0] ∧ win0_2.index t = ![0, 0]
    ∧ win0_3.index t = ![1, 0] ∧ win0_4.index t = ![t.val, 0] ∧ win0_5.index t = ![0, 0] ∧ win0_6.index t = ![t.val, 0] :=
  (by decide +kernel : ∀ t : Fin grid0.N, win0_0.index t = ![t.val, 0] ∧ win0_1.index t = ![t.val, 0] ∧ win0_2.index t = ![0, 0]
    ∧ win0_3.index t = ![1, 0] ∧ win0_4.index t = ![t.val, 0] ∧ win0_5.index t = ![0, 0] ∧ win0_6.index t = ![t.val, 0])

/-- After the run the result array holds the result of the arguments. -/
theorem final (c : Dev nD) : (dats m 0 c).arrAt 6 cfg0.N
    = result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  idx_vars y
  rw [pay_apply]
  unfold result prod Maths.rmsScale
  pointwise
  obtain ⟨h0, h1, h2, h3, h4, h5, h6⟩ := idx t
  blk_point [iblk, V, h0, h1, h2, h3, h4, h5, h6]

/-- The run of the kernel: the result array holds the result of the arguments, and these are unchanged. -/
theorem run : θ_run defs (onTc (τ := τ) (main (F := Ideal))) ⟨m, fun _ => 0, ρ⟩ fun r => ∀ c : Dev nD,
      r.2.mem ((c : Thread nD τ).loc main_v5) = result (m ((c : Thread nD τ).loc main_arg0))
          (m ((c : Thread nD τ).loc main_arg1)) (m ((c : Thread nD τ).loc main_arg2)) (m ((c : Thread nD τ).loc main_arg3))
          (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.OutAbIdeal.Value.run_blocks (F := Ideal) m ρ)

end Kernel

section Reference

open Cert.OutAbRefIdeal Cert.OutAbRefIdeal.Gen

/-- The reference's product of the two outputs, side by side, with the weights. -/
def refProd (a0 a1 : FVec Ideal S16384x1024 .bf16) (a2 : FVec Ideal S1x2048x2048 .f32) : FVec Ideal S16384x2048 .f32 :=
  Host.dotGeneral dot_S16384x2048_S2048x2048_S16384x2048_1_0_0_1_n_n none
    (extf .f32 (concatenate S16384x2048 1 [⟨S16384x1024, a0⟩, ⟨S16384x1024, a1⟩]
      concatenates_S16384x1024_S16384x1024_S16384x2048_d1 : FVec Ideal S16384x2048 .bf16) bitsLt_bf16_f32)
    (shapeCast _ a2 shapeCasts_S1x2048x2048_S2048x2048)

/-- The reference's norm weights, broadcast to every row. -/
def refWeight (a4 : FVec Ideal S2x4x2048 .f32) : FVec Ideal S16384x2048 .f32 :=
  broadcastInDim S16384x2048 ![0, 1] bcast_S1x2048_S16384x2048_0_1 (broadcastInDim S1x2048 ![1] bcast_S2048_S1x2048_1
    (shapeCast S2048 (extractStridedSlice S1x1x2048 ![0, 1, 0] a4 slices_S2x4x2048_S1x1x2048_0_1_0)
      shapeCasts_S1x1x2048_S2048))

theorem refProd_apply (a0 a1 : FVec Ideal S16384x1024 .bf16) (a2 : FVec Ideal S1x2048x2048 .f32) (r : Fin 16384)
    (l : Fin 2048) : refProd a0 a1 a2 (ix2 r l) = prod a0 a1 a2 r l := by
  unfold refProd prod
  pointwise

theorem refWeight_apply (a4 : FVec Ideal S2x4x2048 .f32) (r : Fin 16384) (l : Fin 2048) :
    refWeight a4 (ix2 r l) = a4 (ix3 0 1 l) := by
  unfold refWeight
  pointwise

/-- The reference's result is the result. -/
theorem ref_eq (a0 a1 : FVec Ideal S16384x1024 .bf16) (a2 : FVec Ideal S1x2048x2048 .f32) (a3 : FVec Ideal S16384x2048 .f32)
    (a4 : FVec Ideal S2x4x2048 .f32) :
    addf a3 (mulf (mulf (refProd a0 a1 a2) (RefNorm.refScale (refProd a0 a1 a2))) (refWeight a4)) = result a0 a1 a2 a3 a4 := by
  funext j
  idx_vars j
  rw [ValueIdx.addf_apply, ValueIdx.mulf_apply, ValueIdx.mulf_apply, refProd_apply, RefNorm.refScale_apply, refWeight_apply]
  simp only [refProd_apply]
  rfl

/-- What the reference's run leaves in its result, over the contents of its arguments, is the result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = result (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Cert.OutAbRefIdeal.Value.run (F := Ideal) m ρ)
  exact ref_eq _ _ _ _ _

end Reference

end Cert.OutAbProj

end
-- ==== Proof.BandRefGather.lean ====
/-
  The banded attention's reference: the rows of each chunk's frame, read by index out of the padded sequence.
-/
module

public import proofs.«01_k».proof.Proof.BandMaths
public import proofs.«01_k».proof.Proof.Gen.BandRefIdeal.Run
public import Idealize.ShloMosaic.Lib.Pointwise
public import Idealize.ShloMosaic.Lib.ValueIdx
public import Idealize.ShloMosaic.Lib.StableHlo.Predicate

@[expose] public section

set_option maxRecDepth 16384

noncomputable section

namespace Cert.BandAttn

open Idealize.ShloMosaic Idealize.ShloMosaic.TcCoe Idealize.SL.Sem
open Cert.BandRefIdeal Cert.BandRefIdeal.Gen

/-- The padded row of each entry of each chunk's frame: 64 times the chunk plus the entry. -/
def refFrame : IVec S64x576 32 :=
  addi (broadcastInDim S64x576 ![0, 1] bcast_S64x1_S64x576_0_1 (muli (broadcastInDim S64x1 ![0] bcast_S64_S64x1_0 (iotaInDim S64 32 0))
      (broadcastInDim S64x1 ![] bcast_S_S64x1 (constantI S_ 32 64#32))))
    (broadcastInDim S64x576 ![0, 1] bcast_S1x576_S64x576_0_1 (broadcastInDim S1x576 ![1] bcast_S576_S1x576_1 (iotaInDim S576 32 0)))

/-- The same as starts of the reads, a negative one counted from the end. -/
def refStart : IVec S64x576x1 32 :=
  broadcastInDim S64x576x1 ![0, 1] bcast_S64x576_S64x576x1_0_1
    (select (cmpi .slt refFrame (broadcastInDim S64x576 ![] bcast_S_S64x576 (constantI S_ 32 0#32)))
      (addi refFrame (broadcastInDim S64x576 ![] bcast_S_S64x576 (constantI S_ 32 4608#32))) refFrame)

/-- A sequence with 512 rows of zeros before it. -/
def refPadded (x : FVec Ideal S4x4096x16x128 .f32) : FVec Ideal S4x4608x16x128 .f32 :=
  pad S4x4608x16x128 ![0, 512, 0, 0] ![0, 0, 0, 0] ![0, 0, 0, 0] x (sitofp .f32 (constantI S_ 32 0#32))
    pads_S4x4096x16x128_S4x4608x16x128_000_51200_000_000 h_S_

/-- The rows of each chunk's frame. -/
def refFramed (x : FVec Ideal S4x4096x16x128 .f32) : FVec Ideal S4x64x576x16x128 .f32 :=
  Host.gather gather_S4x4608x16x128_S64x576x1_S4x64x576x16x128_034_1_n_n_1_2_4116128 (refPadded x) refStart

theorem refFrame_apply (n : Fin 64) (i : Fin 576) : refFrame (ix2 n i) = BitVec.ofNat 32 (n.val * 64 + i.val) := by
  unfold refFrame
  pointwise
  show BitVec.ofNat 32 n.val * 64#32 + BitVec.ofNat 32 i.val = _
  rw [BitVec.ofNat_add, BitVec.ofNat_mul]

theorem refStart_apply (n : Fin 64) (i : Fin 576) : refStart (ix3 n i 0) = BitVec.ofNat 32 (n.val * 64 + i.val) := by
  unfold refStart
  pointwise [refFrame_apply]
  refine if_neg fun h => ?_
  have hn : (BitVec.ofNat 32 (n.val * 64 + i.val)).toNat = n.val * 64 + i.val := by rw [BitVec.toNat_ofNat]; omega
  have := (StableHlo.Predicate.slt_iff_toNat (by omega) (by decide)).mp h
  exact absurd this (Nat.not_lt_zero _)

theorem refPadded_apply (x : FVec Ideal S4x4096x16x128 .f32) (b : Fin 4) (r : Fin 4608) (g : Fin 16) (e : Fin 128) :
    refPadded x (ix4 b r g e) = if h : 512 ≤ r.val then x (ix4 b ⟨r.val - 512, by omega⟩ g e) else 0 := by
  unfold refPadded
  pointwise
  by_cases h : 512 ≤ r.val
  · rw [dif_pos h, dif_pos ⟨h, by omega⟩]
  · rw [dif_neg h, dif_neg fun hh => h hh.1]
    show (((0#32 : BitVec 32).toInt : ℝ) : EReal) = 0
    simp

/-- The dimensions of the read by index. -/
abbrev framesRead := gather_S4x4608x16x128_S64x576x1_S4x64x576x16x128_034_1_n_n_1_2_4116128

/-- The read by index: along the rows, at the start. -/
theorem framesRead_apply (x : FVec Ideal S4x4608x16x128 .f32) (st : IVec S64x576x1 32) (b : Fin 4) (n : Fin 64) (i : Fin 576)
    (g : Fin 16) (e : Fin 128) : Host.gather framesRead x st (ix5 b n i g e)
      = x (ix4 b ⟨min (st (ix3 n i 0)).toInt.toNat 4607, by omega⟩ g e) := by
  unfold Host.gather
  congr 1
  funext a
  refine Fin.ext ?_
  show framesRead.start (ix5 b n i g e) st a + framesRead.batchCoord (ix5 b n i g e) a + framesRead.offCoord (ix5 b n i g e) a = _
  rw [GatherDims.batchCoord_eq_zero _ _ _ List.not_mem_nil, Nat.add_zero]
  have h0 : ∀ k : Fin 4, k ∉ ([1] : List (Fin 4)) → framesRead.start (ix5 b n i g e) st k = 0 := fun k hk => dif_neg hk
  match a with
  | ⟨0, _⟩ =>
    refine (congrArg (· + _) (h0 0 (by decide))).trans ((Nat.zero_add _).trans ?_)
    exact dif_pos (show (0 : Fin 4) ∈ framesRead.sKept from (by decide : (0 : Fin 4) ∈ ([0, 2, 3] : List (Fin 4))))
  | ⟨1, _⟩ =>
    refine (congrArg (_ + ·) (GatherDims.offCoord_eq_zero framesRead _ 1 (fun h =>
      ((GatherDims.mem_sKept _ _).mp h).1 (List.mem_singleton.mpr rfl)))).trans ((Nat.add_zero _).trans ?_)
    refine (dif_pos (show (1 : Fin 4) ∈ framesRead.startIndexMap from List.mem_singleton.mpr rfl)).trans ?_
    have hsi : framesRead.siIdx (ix5 b n i g e) ⟨List.idxOf (1 : Fin 4) framesRead.startIndexMap,
        List.idxOf_lt_length_iff.2 (List.mem_singleton.mpr rfl)⟩ = ix3 n i 0 := by
      funext k
      refine Fin.ext ?_
      match k with
      | ⟨0, _⟩ => rfl
      | ⟨1, _⟩ => rfl
      | ⟨2, _⟩ => rfl
    exact congrArg (fun k => min (st k).toInt.toNat 4607) hsi
  | ⟨2, _⟩ =>
    refine (congrArg (· + _) (h0 2 (by decide))).trans ((Nat.zero_add _).trans ?_)
    exact dif_pos (show (2 : Fin 4) ∈ framesRead.sKept from (by decide : (2 : Fin 4) ∈ ([0, 2, 3] : List (Fin 4))))
  | ⟨3, _⟩ =>
    refine (congrArg (· + _) (h0 3 (by decide))).trans ((Nat.zero_add _).trans ?_)
    exact dif_pos (show (3 : Fin 4) ∈ framesRead.sKept from (by decide : (3 : Fin 4) ∈ ([0, 2, 3] : List (Fin 4))))

theorem refFramed_apply (x : FVec Ideal S4x4096x16x128 .f32) (b : Fin 4) (n : Fin 64) (i : Fin 576) (g : Fin 16) (e : Fin 128) :
    refFramed x (ix5 b n i g e) = if h : 512 ≤ n.val * 64 + i.val then x (ix4 b ⟨n.val * 64 + i.val - 512, by omega⟩ g e) else 0 := by
  have hs : min (refStart (ix3 n i 0)).toInt.toNat 4607 = n.val * 64 + i.val := by
    rw [refStart_apply, StableHlo.Predicate.toInt_ofNat_small _ (by omega), Int.toNat_natCast]
    omega
  unfold refFramed
  rw [framesRead_apply, refPadded_apply]
  simp only [hs]

end Cert.BandAttn

end
-- ==== Proof.BandRef.lean ====
/-
  The banded attention: what the reference computes, chunk by chunk over the frames it reads by index, is the result.
-/
module

public import proofs.«01_k».proof.Proof.BandValue
public import proofs.«01_k».proof.Proof.BandRefGather
public import Idealize.ShloMosaic.Lib.Claim

@[expose] public section

set_option maxRecDepth 16384

noncomputable section

namespace Cert.BandAttn

open Idealize.ShloMosaic Idealize.ShloMosaic.TcCoe Idealize.SL.Sem
open Cert.BandRefIdeal Cert.BandRefIdeal.Gen

/-- The queries by chunk, and the keys and the values by sequence. -/
def refQueries (qkv : FVec Ideal S16384x6144 .bf16) : FVec Ideal S4x64x64x16x128 .f32 :=
  shapeCast S4x64x64x16x128 (extractStridedSlice S16384x2048 ![0, 0] (extf .f32 qkv bitsLt_bf16_f32) slices_S16384x6144_S16384x2048_0_0)
    shapeCasts_S16384x2048_S4x64x64x16x128
def refKeys (qkv : FVec Ideal S16384x6144 .bf16) : FVec Ideal S4x4096x16x128 .f32 :=
  shapeCast S4x4096x16x128 (extractStridedSlice S16384x2048 ![0, 2048] (extf .f32 qkv bitsLt_bf16_f32) slices_S16384x6144_S16384x2048_0_2048)
    shapeCasts_S16384x2048_S4x4096x16x128
def refValues (qkv : FVec Ideal S16384x6144 .bf16) : FVec Ideal S4x4096x16x128 .f32 :=
  shapeCast S4x4096x16x128 (extractStridedSlice S16384x2048 ![0, 4096] (extf .f32 qkv bitsLt_bf16_f32) slices_S16384x6144_S16384x2048_0_4096)
    shapeCasts_S16384x2048_S4x4096x16x128

/-- The biases of every chunk. -/
def refBias (tb : FVec Ideal S16x128x640 .f32) : FVec Ideal S64x16x64x576 .f32 :=
  shapeCast S64x16x64x576 (broadcastInDim S32x2x16x64x576 ![1, 2, 3, 4] bcast_S2x16x64x576_S32x2x16x64x576_1_2_3_4
    (concatenate S2x16x64x576 0
      [⟨S1x16x64x576, broadcastInDim S1x16x64x576 ![1, 2, 3] bcast_S16x64x576_S1x16x64x576_1_2_3
          (extractStridedSlice S16x64x576 ![0, 0, 0] tb slices_S16x128x640_S16x64x576_0_0_0)⟩,
       ⟨S1x16x64x576, broadcastInDim S1x16x64x576 ![1, 2, 3] bcast_S16x64x576_S1x16x64x576_1_2_3
          (extractStridedSlice S16x64x576 ![0, 64, 64] tb slices_S16x128x640_S16x64x576_0_64_64)⟩]
      concatenates_S1x16x64x576_S1x16x64x576_S2x16x64x576_d0)) shapeCasts_S32x2x16x64x576_S64x16x64x576

/-- The scores in natural units. -/
def refScores (q : FVec Ideal S4x64x64x16x128 .f32) (k : FVec Ideal S4x64x576x16x128 .f32) (bias : FVec Ideal S64x16x64x576 .f32) :
    FVec Ideal S4x64x16x64x576 .f32 :=
  mulf (addf (Host.dotGeneral dot_S4x64x64x16x128_S4x64x576x16x128_S4x64x16x64x576_4_4_2_2_013_013 none q k)
      (broadcastInDim S4x64x16x64x576 ![0, 1, 2, 3, 4] bcast_S1x64x16x64x576_S4x64x16x64x576_0_1_2_3_4
        (broadcastInDim S1x64x16x64x576 ![1, 2, 3, 4] bcast_S64x16x64x576_S1x64x16x64x576_1_2_3_4 bias)))
    (broadcastInDim S4x64x16x64x576 ![] bcast_S_S4x64x16x64x576 (id (Host.log (constant S_ .f32 0x40000000#32))))

/-- Whether an entry lies within the sequence. -/
def refWithin : IVec S64x576 1 :=
  cmpi .sge (subi refFrame (broadcastInDim S64x576 ![] bcast_S_S64x576 (constantI S_ 32 512#32)))
    (broadcastInDim S64x576 ![] bcast_S_S64x576 (constantI S_ 32 0#32))

/-- The scores, minus infinity outside the sequence. -/
def refKept (s : FVec Ideal S4x64x16x64x576 .f32) : FVec Ideal S4x64x16x64x576 .f32 :=
  select (broadcastInDim S4x64x16x64x576 ![0, 1, 2, 3, 4] bcast_S1x64x1x1x576_S4x64x16x64x576_0_1_2_3_4
      (broadcastInDim S1x64x1x1x576 ![1, 4] bcast_S64x576_S1x64x1x1x576_1_4 refWithin)) s
    (broadcastInDim S4x64x16x64x576 ![] bcast_S_S4x64x16x64x576 (id (constant S_ .f32 0xFF800000#32)))

/-- The greatest score of each row. -/
def refPeak (s : FVec Ideal S4x64x16x64x576 .f32) : FVec Ideal S4x64x16x64 .f32 :=
  maximumf (broadcastInDim S4x64x16x64 ![] bcast_S_S4x64x16x64 (constant S_ .f32 0xFF800000#32))
    (Host.reduce FloatOps.maximumf s (constant S_ .f32 0xFF800000#32) reducesTo_S4x64x16x64x576_S4x64x16x64_d4 h_S_)

/-- The sum of each row's weights. -/
def refTotal (p : FVec Ideal S4x64x16x64x576 .f32) : FVec Ideal S4x64x16x64 .f32 :=
  Host.reduceAdd p (constant S_ .f32 0x00000000#32) reducesTo_S4x64x16x64x576_S4x64x16x64_d4 h_S_

/-- One number of each row, at every entry of the row. -/
def refSpread (x : FVec Ideal S4x64x16x64 .f32) : FVec Ideal S4x64x16x64x576 .f32 :=
  broadcastInDim S4x64x16x64x576 ![0, 1, 2, 3, 4] bcast_S4x64x16x64x1_S4x64x16x64x576_0_1_2_3_4
    (broadcastInDim S4x64x16x64x1 ![0, 1, 2, 3] bcast_S4x64x16x64_S4x64x16x64x1_0_1_2_3 x)

/-- `e` to the power of the scores below the greatest. -/
def refExps (s : FVec Ideal S4x64x16x64x576 .f32) : FVec Ideal S4x64x16x64x576 .f32 := Host.exp (subf s (refSpread (refPeak s)))

/-- The softmax's weights. -/
def refSoftmax (p : FVec Ideal S4x64x16x64x576 .f32) : FVec Ideal S4x64x16x64x576 .f32 := Host.divf p (refSpread (refTotal p))

/-- The weights times the values, put back in rows. -/
def refJoin (v : FVec Ideal S4x64x576x16x128 .f32) (w : FVec Ideal S4x64x16x64x576 .f32) : FVec Ideal S16384x2048 .bf16 :=
  truncf .bf16 (shapeCast S16384x2048 (transpose S4x64x64x16x128 [0, 1, 4, 2, 3]
    (Host.dotGeneral dot_S4x64x576x16x128_S4x64x16x64x576_S4x64x16x128x64_2_4_4_3_013_012 none v w)
    transposes_S4x64x16x128x64_S4x64x64x16x128_0_1_4_2_3) shapeCasts_S4x64x64x16x128_S16384x2048) bitsLt_bf16_f32

variable (qkv : FVec Ideal S16384x6144 .bf16) (tb : FVec Ideal S16x128x640 .f32)
variable (b : Fin 4) (n : Fin 64) (a : Fin 64) (g : Fin 16) (e : Fin 128) (i : Fin 576)

theorem refQueries_apply : refQueries qkv (ix5 b n a g e)
    = qkv (ix2 ⟨b.val * 4096 + n.val * 64 + a.val, by omega⟩ ⟨g.val * 128 + e.val, by omega⟩) := by
  unfold refQueries
  pointwise

theorem refKeys_apply (r : Fin 4096) : refKeys qkv (ix4 b r g e)
    = qkv (ix2 ⟨b.val * 4096 + r.val, by omega⟩ ⟨2048 + (g.val * 128 + e.val), by omega⟩) := by
  unfold refKeys
  pointwise

theorem refValues_apply (r : Fin 4096) : refValues qkv (ix4 b r g e)
    = qkv (ix2 ⟨b.val * 4096 + r.val, by omega⟩ ⟨4096 + (g.val * 128 + e.val), by omega⟩) := by
  unfold refValues
  pointwise

theorem refBias_apply : refBias tb (ix4 n g a i) = tb (ix3 g ⟨n.val % 2 * 64 + a.val, by omega⟩ ⟨n.val % 2 * 64 + i.val, by omega⟩) := by
  unfold refBias
  pointwise
  split
  · exact congrArg tb (by congr 2 <;> omega)
  · exact congrArg tb (by congr 2 <;> omega)

/-- The reference's factor is the natural logarithm of two. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h]
  exact if_neg (by norm_num)

theorem refScores_apply (q : FVec Ideal S4x64x64x16x128 .f32) (k : FVec Ideal S4x64x576x16x128 .f32) (bias : FVec Ideal S64x16x64x576 .f32) :
    refScores q k bias (ix5 b n g a i)
      = ((∑ e : Fin 128, q (ix5 b n a g e) * k (ix5 b n i g e)) + bias (ix4 n g a i)) * ((Real.log 2 : ℝ) : EReal) := by
  rw [← log_two]
  unfold refScores
  pointwise
  rfl

theorem refWithin_apply : refWithin (ix2 n i) = 1#1 ↔ 512 ≤ n.val * 64 + i.val := by
  unfold refWithin
  pointwise [refFrame_apply]
  have hd : (BitVec.ofNat 32 (n.val * 64 + i.val) - 512#32).toInt = ((n.val * 64 + i.val : ℕ) : ℤ) - 512 := by
    rw [BitVec.toInt_sub, StableHlo.Predicate.toInt_ofNat_small _ (by omega)]
    show Int.bmod (((n.val * 64 + i.val : ℕ) : ℤ) - 512) 4294967296 = _
    unfold Int.bmod
    dsimp only
    split <;> omega
  show BitVec.ofBool (BitVec.sle 0#32 (BitVec.ofNat 32 (n.val * 64 + i.val) - 512#32)) = 1#1 ↔ _
  have hb : ∀ x : Bool, BitVec.ofBool x = 1#1 ↔ x = true := by decide
  rw [hb, BitVec.sle_iff_toInt_le, hd]
  show (0 : ℤ) ≤ _ ↔ _
  omega

theorem refKept_apply (s : FVec Ideal S4x64x16x64x576 .f32) :
    refKept s (ix5 b n g a i) = if 512 ≤ n.val * 64 + i.val then s (ix5 b n g a i) else ⊥ := by
  rw [← negInf_eq]
  unfold refKept
  pointwise
  exact select_ite _ _ (refWithin_apply n i) _ _

/-- The greatest along the last of five axes. -/
theorem reduce_max {n0 n1 n2 n3 n4 : Nat} (h : (⟨5, ![n0, n1, n2, n3, n4]⟩ : Shape).ReducesTo [4] ⟨4, ![n0, n1, n2, n3]⟩)
    (x : (⟨5, ![n0, n1, n2, n3, n4]⟩ : Shape).Idx → Ideal .f32) (init : S_.Idx → Ideal .f32) (hu : 0 < S_.numel)
    (b : Fin n0) (n : Fin n1) (g : Fin n2) (a : Fin n3) : Host.reduce FloatOps.maximumf x init h hu (ix4 b n g a)
      = Finset.univ.fold max (init (Shape.Idx.first hu)) fun k => x (ix5 b n g a k) := by
  pointwise

/-- The greater of two, and a constant at every entry. -/
theorem maximumf_at {t : Shape} (x y : FVec Ideal t .f32) (j : t.Idx) : maximumf x y j = max (x j) (y j) := rfl
theorem constant_at (w : BitVec 32) (j : S_.Idx) : (constant S_ .f32 w : FVec Ideal S_ .f32) j = Ideal.ofBits .f32 w := rfl
theorem spread_at {t : Shape} (dims : Fin S_.rank → Fin t.rank) (h : S_.BroadcastsInDim t dims) (w : BitVec 32) (j : t.Idx) :
    broadcastInDim t dims h (constant S_ .f32 w : FVec Ideal S_ .f32) j = Ideal.ofBits .f32 w := rfl

theorem refPeak_apply (s : FVec Ideal S4x64x16x64x576 .f32) : refPeak s (ix4 b n g a) = peak fun k => s (ix5 b n g a k) := by
  unfold refPeak peak
  rw [maximumf_at, spread_at, reduce_max, constant_at, negInf_eq]
  exact max_eq_right bot_le

theorem refTotal_apply (p : FVec Ideal S4x64x16x64x576 .f32) : refTotal p (ix4 b n g a) = ∑ k : Fin 576, p (ix5 b n g a k) := by
  unfold refTotal
  pointwise

theorem refSpread_apply (x : FVec Ideal S4x64x16x64 .f32) : refSpread x (ix5 b n g a i) = x (ix4 b n g a) := by
  unfold refSpread
  pointwise

theorem refExps_apply (s : FVec Ideal S4x64x16x64x576 .f32) :
    refExps s (ix5 b n g a i) = Ideal.exp (s (ix5 b n g a i) - peak fun k => s (ix5 b n g a k)) := by
  unfold refExps
  pointwise [refSpread_apply, refPeak_apply]

theorem refSoftmax_apply (s : FVec Ideal S4x64x16x64x576 .f32) :
    refSoftmax s (ix5 b n g a i) = Ideal.div (s (ix5 b n g a i)) (∑ k : Fin 576, s (ix5 b n g a k)) := by
  unfold refSoftmax
  pointwise [refSpread_apply, refTotal_apply]

theorem refJoin_apply (v : FVec Ideal S4x64x576x16x128 .f32) (w : FVec Ideal S4x64x16x64x576 .f32) (R : Fin 16384) (C : Fin 2048) :
    refJoin v w (ix2 R C) = ∑ k : Fin 576, v (ix5 ⟨R.val / 4096, by omega⟩ ⟨R.val / 64 % 64, by omega⟩ k ⟨C.val / 128, by omega⟩ ⟨C.val % 128, by omega⟩)
      * w (ix5 ⟨R.val / 4096, by omega⟩ ⟨R.val / 64 % 64, by omega⟩ ⟨C.val / 128, by omega⟩ ⟨R.val % 64, by omega⟩ k) := by
  unfold refJoin
  pointwise

/-- The kept scores, out of the queries, the keys and the table. -/
def refLogits : FVec Ideal S4x64x16x64x576 .f32 := refKept (refScores (refQueries qkv) (refFramed (refKeys qkv)) (refBias tb))

/-- The reference's result: the softmax's weights times the values. -/
def refResult : FVec Ideal S16384x2048 .bf16 := refJoin (refFramed (refValues qkv)) (refSoftmax (refExps (refLogits qkv tb)))

/-- Where row `R` and its frame's entry `i` lie among the sequences, the chunks and the table's rows and columns. -/
theorem rowOf (R : Fin 16384) : R.val / 4096 * 4096 + R.val / 64 % 64 * 64 + R.val % 64 = R.val := by omega
theorem frameRowOf (R : Fin 16384) (i : Fin 576) : R.val / 4096 * 4096 + (R.val / 64 % 64 * 64 + i.val - 512)
    = R.val / 4096 * 4096 + (R.val % 4096 / 64 * 64 + i.val - 512) := by omega
theorem tableRowOf (R : Fin 16384) : R.val / 64 % 64 % 2 * 64 + R.val % 64 = R.val % 128 := by omega
theorem tableColOf (R : Fin 16384) (i : Fin 576) : R.val / 64 % 64 % 2 * 64 + i.val = R.val % 128 / 64 * 64 + i.val := by omega
theorem valueColOf (C : Fin 2048) : 4096 + (C.val / 128 * 128 + C.val % 128) = 4096 + C.val := by omega
theorem withinOf (R : Fin 16384) (i : Fin 576) : 512 ≤ R.val / 64 % 64 * 64 + i.val ↔ within R i := by
  unfold within
  omega

/-- Within the sequence, the frame's keys are those of the row. -/
theorem refFramed_key (R : Fin 16384) (C : Fin 2048) (h : within R i) :
    refFramed (refKeys qkv) (ix5 ⟨R.val / 4096, by omega⟩ ⟨R.val / 64 % 64, by omega⟩ i ⟨C.val / 128, by omega⟩ e)
      = qkv (ix2 (frameRow R i) ⟨2048 + (C.val / 128 * 128 + e.val), by omega⟩) := by
  rw [refFramed_apply, dif_pos ((withinOf R i).mpr h), refKeys_apply]
  exact congrArg₂ (fun k l => qkv (ix2 k l)) (Fin.ext (frameRowOf R i)) rfl

/-- The kept scores are those of the row, in natural units. -/
theorem refLogits_apply (R : Fin 16384) (C : Fin 2048) :
    refLogits qkv tb (ix5 ⟨R.val / 4096, by omega⟩ ⟨R.val / 64 % 64, by omega⟩ ⟨C.val / 128, by omega⟩ ⟨R.val % 64, by omega⟩ i)
      = kept qkv tb R C i * ((Real.log 2 : ℝ) : EReal) := by
  have hw := withinOf R i
  unfold refLogits kept
  rw [refKept_apply]
  by_cases h : within R i
  · rw [if_pos (hw.mpr h), if_pos h, refScores_apply, refBias_apply]
    unfold score
    have hq : ∀ e : Fin 128, refQueries qkv (ix5 ⟨R.val / 4096, by omega⟩ ⟨R.val / 64 % 64, by omega⟩ ⟨R.val % 64, by omega⟩ ⟨C.val / 128, by omega⟩ e)
        = qkv (ix2 R ⟨C.val / 128 * 128 + e.val, by omega⟩) := fun e =>
      (refQueries_apply ..).trans (congrArg₂ (fun k l => qkv (ix2 k l)) (Fin.ext (rowOf R)) rfl)
    have hk := fun e : Fin 128 => refFramed_key qkv e i R C h
    have hb : tb (ix3 ⟨C.val / 128, by omega⟩ ⟨R.val / 64 % 64 % 2 * 64 + R.val % 64, by omega⟩ ⟨R.val / 64 % 64 % 2 * 64 + i.val, by omega⟩)
        = tb (ix3 ⟨C.val / 128, by omega⟩ ⟨R.val % 128, by omega⟩ ⟨R.val % 128 / 64 * 64 + i.val, by omega⟩) :=
      congrArg₂ (fun k l => tb (ix3 _ k l)) (Fin.ext (tableRowOf R)) (Fin.ext (tableColOf R i))
    rw [hb]
    simp only [hq, hk]
  · rw [if_neg fun hh => h (hw.mp hh), if_neg h]
    exact (EReal.bot_mul_coe_of_pos (Real.log_pos (by norm_num))).symm

/-- The frame's values are those of the row. -/
theorem refFramed_value (R : Fin 16384) (C : Fin 2048) :
    refFramed (refValues qkv) (ix5 ⟨R.val / 4096, by omega⟩ ⟨R.val / 64 % 64, by omega⟩ i ⟨C.val / 128, by omega⟩ ⟨C.val % 128, by omega⟩)
      = value qkv R C i := by
  have hw := withinOf R i
  unfold value
  rw [refFramed_apply]
  by_cases h : within R i
  · rw [dif_pos (hw.mpr h), if_pos h]
    exact (refValues_apply ..).trans (congrArg₂ (fun k l => qkv (ix2 k l)) (Fin.ext (frameRowOf R i)) (Fin.ext (valueColOf C)))
  · rw [dif_neg fun hh => h (hw.mp hh), if_neg h]

theorem refResult_eq : refResult qkv tb = result qkv tb := by
  funext j
  obtain ⟨R, C, rfl⟩ : ∃ (R : Fin 16384) (C : Fin 2048), j = ix2 R C := ⟨j 0, j 1, by idx_vars j⟩
  unfold refResult
  rw [refJoin_apply]
  show _ = attendE (fun k => kept qkv tb R C k * ((Real.log 2 : ℝ) : EReal)) (value qkv R C)
  unfold attendE
  refine Finset.sum_congr rfl fun k _ => ?_
  rw [refFramed_value, refSoftmax_apply, mul_comm]
  simp only [refExps_apply, refLogits_apply]

variable (m : (ℓ : Loc nD τ sig) → Buf (Elt Ideal) ℓ) (ρ : Dev nD → PrngReg)

/-- The reference computes the result, and keeps its arguments. -/
theorem ref_run :
    θ_run defs (onTc (τ := τ) (main (F := Ideal))) ⟨m, fun _ => 0, ρ⟩ fun r => ∀ c : Dev nD,
      r.2.mem ((c.tc : Thread nD τ).loc main_v67) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.BandRefIdeal.Value.run (F := Ideal) m ρ)
  exact refResult_eq _ _

end Cert.BandAttn

end
-- ==== Proof.BiasRef.lean ====
/-
  The bias table's reference: the buckets it reads at, and that what it computes is the kernel's result.
-/
module

public import proofs.«01_k».proof.Proof.BiasValue
public import proofs.«01_k».proof.Proof.Gen.BiasRefIdeal.Run
public import Idealize.ShloMosaic.Lib.Pointwise
public import Idealize.ShloMosaic.Lib.ValueIdx
public import Idealize.ShloMosaic.Lib.StableHlo.Predicate

@[expose] public section

set_option maxRecDepth 16384

noncomputable section

namespace Cert.BiasTable

open Idealize.ShloMosaic Idealize.ShloMosaic.TcCoe Idealize.SL.Sem
open Cert.BiasRefIdeal Cert.BiasRefIdeal.Gen

/-- The bucket of each row and column. -/
def refBucket : IVec S128x640 32 :=
  addi (minsi (broadcastInDim S128x640 ![] bcast_S_S128x640 (id (constantI S_ 32 256#32)))
      (maxsi (broadcastInDim S128x640 ![] bcast_S_S128x640 (id (constantI S_ 32 4294967233#32)))
        (subi (broadcastInDim S128x640 ![0, 1] bcast_S128x1_S128x640_0_1
            (addi (broadcastInDim S128x1 ![0] bcast_S128_S128x1_0 (iotaInDim S128 32 0))
              (broadcastInDim S128x1 ![] bcast_S_S128x1 (constantI S_ 32 512#32))))
          (broadcastInDim S128x640 ![0, 1] bcast_S1x640_S128x640_0_1 (broadcastInDim S1x640 ![1] bcast_S640_S1x640_1 (iotaInDim S640 32 0))))))
    (broadcastInDim S128x640 ![] bcast_S_S128x640 (constantI S_ 32 63#32))

/-- The same as starts of the reads, a negative one counted from the end. -/
def refStart : IVec S128x640x1 32 :=
  broadcastInDim S128x640x1 ![0, 1] bcast_S128x640_S128x640x1_0_1
    (select (cmpi .slt refBucket (broadcastInDim S128x640 ![] bcast_S_S128x640 (constantI S_ 32 0#32)))
      (addi refBucket (broadcastInDim S128x640 ![] bcast_S_S128x640 (constantI S_ 32 320#32))) refBucket)

/-- The distance of column `j` from row `r`, as the kernel counts it. -/
theorem distance (r : Fin 128) (j : Fin 640) : BitVec.ofNat 32 r.val + 512#32 - BitVec.ofNat 32 j.val
    = 639#32 - BitVec.ofNat 32 (127 - r.val + j.val) := by
  have hr := r.isLt
  have hj := j.isLt
  apply BitVec.eq_of_toNat_eq
  simp only [BitVec.toNat_sub, BitVec.toNat_add, BitVec.toNat_ofNat]
  omega

theorem refBucket_apply (r : Fin 128) (j : Fin 640) : refBucket (ix2 r j) = BitVec.ofNat 32 (bucket (127 - r.val + j.val)) := by
  unfold refBucket
  pointwise
  refine Eq.trans ?_ (bucket_word ⟨127 - r.val + j.val, by omega⟩)
  exact congrArg (fun d => IntOp.addi (IntOp.minsi 256#32 (IntOp.maxsi 4294967233#32 d)) 63#32) (distance r j)

theorem refStart_apply (r : Fin 128) (j : Fin 640) : refStart (ix3 r j 0) = BitVec.ofNat 32 (bucket (127 - r.val + j.val)) := by
  unfold refStart
  pointwise [refBucket_apply]
  refine if_neg fun h => ?_
  have hb := bucket_lt (127 - r.val + j.val)
  have hn : (BitVec.ofNat 32 (bucket (127 - r.val + j.val))).toNat = bucket (127 - r.val + j.val) := by
    rw [BitVec.toNat_ofNat]; omega
  have := (StableHlo.Predicate.slt_iff_toNat (by omega) (by decide)).mp h
  exact absurd this (Nat.not_lt_zero _)

/-- The dimensions of the read by index. -/
abbrev biasRead := gather_S16x320_S128x640x1_S16x128x640_0_1_n_n_1_2_161

/-- The read by index: along the buckets, at the start. -/
theorem biasRead_apply (x : FVec Ideal S16x320 .f32) (st : IVec S128x640x1 32) (h : Fin 16) (r : Fin 128) (j : Fin 640) :
    Host.gather biasRead x st (ix3 h r j) = x (ix2 h ⟨min (st (ix3 r j 0)).toInt.toNat 319, by omega⟩) := by
  unfold Host.gather
  congr 1
  funext a
  refine Fin.ext ?_
  show biasRead.start (ix3 h r j) st a + biasRead.batchCoord (ix3 h r j) a + biasRead.offCoord (ix3 h r j) a = _
  rw [GatherDims.batchCoord_eq_zero _ _ _ List.not_mem_nil, Nat.add_zero]
  match a with
  | ⟨0, _⟩ =>
    refine (congrArg (· + _) (dif_neg (show (0 : Fin 2) ∉ ([1] : List (Fin 2)) by decide) : biasRead.start (ix3 h r j) st 0 = 0)).trans
      ((Nat.zero_add _).trans ?_)
    exact dif_pos (show (0 : Fin 2) ∈ biasRead.sKept from (by decide : (0 : Fin 2) ∈ ([0] : List (Fin 2))))
  | ⟨1, _⟩ =>
    refine (congrArg (_ + ·) (GatherDims.offCoord_eq_zero biasRead _ 1 (fun h =>
      ((GatherDims.mem_sKept _ _).mp h).1 (List.mem_singleton.mpr rfl)))).trans ((Nat.add_zero _).trans ?_)
    refine (dif_pos (show (1 : Fin 2) ∈ biasRead.startIndexMap from List.mem_singleton.mpr rfl)).trans ?_
    have hsi : biasRead.siIdx (ix3 h r j) ⟨List.idxOf (1 : Fin 2) biasRead.startIndexMap,
        List.idxOf_lt_length_iff.2 (List.mem_singleton.mpr rfl)⟩ = ix3 r j 0 := by
      funext k
      refine Fin.ext ?_
      match k with
      | ⟨0, _⟩ => rfl
      | ⟨1, _⟩ => rfl
      | ⟨2, _⟩ => rfl
    exact congrArg (fun k => min (st k).toInt.toNat 319) hsi

/-- The biases the reference reads, in head-first order. -/
def refRead (w : FVec Ideal S1x16x320 .f32) : FVec Ideal S16x128x640 .f32 :=
  Host.gather biasRead (shapeCast _ w shapeCasts_S1x16x320_S16x320) refStart

theorem refRead_apply (w : FVec Ideal S1x16x320 .f32) (h : Fin 16) (r : Fin 128) (j : Fin 640) :
    refRead w (ix3 h r j) = w (ix3 0 h ⟨bucket (127 - r.val + j.val), bucket_lt _⟩) := by
  have hs : min (refStart (ix3 r j 0)).toInt.toNat 319 = bucket (127 - r.val + j.val) := by
    have hb := bucket_lt (127 - r.val + j.val)
    rw [refStart_apply, StableHlo.Predicate.toInt_ofNat_small _ (by omega), Int.toNat_natCast]
    omega
  unfold refRead
  rw [biasRead_apply]
  simp only [hs]
  pointwise

/-- The reference's result is the result. -/
theorem ref_eq (w : FVec Ideal S1x16x320 .f32) : transpose S128x16x640 [1, 0, 2]
    (mulf (refRead w) (broadcastInDim S16x128x640 ![] bcast_S_S16x128x640 (constant S_ .f32 0x3FB8AA3B#32)))
    transposes_S16x128x640_S128x16x640_1_0_2 = result w := by
  funext i
  idx_vars i
  unfold result
  pointwise [refRead_apply]

/-- What the reference's run leaves in its result, over the contents of its argument, is the result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = result (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Cert.BiasRefIdeal.Value.run (F := Ideal) m ρ)
  exact ref_eq _

end Cert.BiasTable

end
-- ==== Proof.SsmWeightValue.lean ====
/-
  The state space model's weight: what one block of rows holds, what the result array holds, what the reference
  computes, and that the two are one function of the argument.
-/
module

public import proofs.«01_k».proof.Proof.BandPay
public import proofs.«01_k».proof.Proof.Gen.SsmWeightIdeal.Value
public import proofs.«01_k».proof.Proof.Gen.SsmWeightRefIdeal.Run
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.StableHlo.Predicate

@[expose] public section

set_option maxRecDepth 16384

noncomputable section

namespace Cert.SsmColumns

open Idealize.ShloMosaic Idealize.ShloMosaic.TcCoe Idealize.SL.Sem
open Idealize.ShloMosaic.Pipeline (Dat)

section Kernel

open Cert.SsmWeightIdeal Cert.SsmWeightIdeal.Gen

/-- The result: the weights' last 2576 columns, and zeros to the right of them. -/
def result (w : FVec Ideal S1x2048x6096 .f32) : FVec Ideal S2048x2688 .bf16 := fun i =>
  if h : (i 1).val < 2576 then w (ix3 0 (i 0) ⟨3520 + (i 1).val, by omega⟩) else 0

/-- The columns a block copies. -/
theorem copied_apply (x : Vec Ideal S256x6096 .bf16) (r : Fin 256) (l : Fin 2560) :
    k0_pay2 x (ix2 r l) = x (ix2 r ⟨3520 + l.val, by omega⟩) := by
  pointwise [k0_pay2, k0_pay1]

/-- The lane compare as an inequality. -/
theorem lane_lt (l : Fin 128) : IntOp.cmpi .slt (BitVec.ofNat 32 l.val) 16#32 = 1#1 ↔ l.val < 16 := by
  revert l; decide

/-- The columns a block writes last: sixteen of the weights, then zeros. -/
theorem padded_apply (x : Vec Ideal S256x6096 .bf16) (r : Fin 256) (l : Fin 128) :
    k0_pay3 x (ix2 r l) = if h : l.val < 16 then x (ix2 r ⟨6080 + l.val, by omega⟩) else 0 := by
  pointwise [k0_pay3, k0_pay1]
  rw [BandAttn.select_ite _ _ (lane_lt l)]
  by_cases h : l.val < 16
  · rw [if_pos h, dif_pos h]
    exact congrArg (fun k => x (ix2 r k)) (Fin.ext (by show 5968 + (l.val + 128 - 16) % 128 = 6080 + l.val; omega))
  · rw [if_neg h, dif_neg h]

variable (m : (ℓ : Loc nD τ sig) → Buf (Elt Ideal) ℓ) (ρ : Dev nD → PrngReg)

/-- Where the windows lie at point `t`: the rows of block `t`. -/
theorem idx : ∀ t : Fin cfg0.N, win0_0.index t = ![t.val, 0] ∧ win0_1.index t = ![t.val, 0] :=
  (by decide +kernel : ∀ t : Fin grid0.N, win0_0.index t = ![t.val, 0] ∧ win0_1.index t = ![t.val, 0])

/-- What point `t` leaves in its block. -/
theorem out_apply (c : Dev nD) (t : Fin cfg0.N) (r : Fin 256) (l : Fin 2688) : outsAt0 m c t (ix2 r l)
    = if h : l.val < 2576 then iblk m c 0 t (ix2 r ⟨3520 + l.val, by omega⟩) else (0 : EReal) := by
  unfold outsAt0
  generalize iblk m c 0 t = x
  frame_out
  generalize hy : ix2 r l = y
  canon_tiles z h using (View.cover_of_tiledBy _ ![256, 128] (by sl_kernel_rfl) y)
  all_goals subst hy
  all_goals
    replace h0 : r.val = _ := h0
    replace h1 : l.val = _ := h1
    idx_vars z
  · rw [padded_apply]
    by_cases h : z1.val < 16
    · rw [dif_pos h, dif_pos (by omega)]
      exact congrArg₂ (fun k l => x (ix2 k l)) (Fin.ext h0.symm) (Fin.ext (by show 6080 + z1.val = 3520 + l.val; omega))
    · rw [dif_neg h, dif_neg (by omega)]
  · rw [copied_apply, dif_pos (by omega)]
    exact congrArg₂ (fun k l => x (ix2 k l)) (Fin.ext h0.symm) (Fin.ext (by show 3520 + z1.val = 3520 + l.val; omega))

/-- What the input window holds. -/
theorem read_apply (c : Dev nD) (t : Fin cfg0.N) (r : Fin 256) (k : Fin 6096) (R : Fin 2048) (hR : R.val = t.val * 256 + r.val) :
    iblk m c 0 t (ix2 r k) = m ((c : Thread nD τ).loc main_arg0) (ix3 0 R k) := by
  obtain ⟨h0, h1⟩ := idx t
  blk_ext! [iblk, V, h0]

/-- After the run the result array holds the result of the argument. -/
theorem final (c : Dev nD) : (dats m 0 c).arrAt 1 cfg0.N = result (m ((c : Thread nD τ).loc main_arg0)) := by
  refine (dats m 0 c).arrAt_eq_of_covers 1 _ (by decide +kernel) fun t hf y => ?_
  obtain ⟨h0, h1⟩ := idx t
  have e0 : (((cfg0.win 1).blk t).view.emb y 0).val = t.val * 256 + (y 0).val := by blk_simp [h1]
  have e1 : (((cfg0.win 1).blk t).view.emb y 1).val = (y 1).val := by blk_simp [h1]
  generalize ((cfg0.win 1).blk t).view.emb y = i at e0 e1
  blk_simp
  rw [after0_1]
  idx_vars y
  rw [out_apply]
  unfold result
  by_cases h : y1.val < 2576
  · rw [dif_pos h, dif_pos (e1.trans_lt h), read_apply m c t y0 _ (i 0) e0]
    exact congrArg (fun k => m ((c : Thread nD τ).loc main_arg0) (ix3 0 (i 0) k)) (Fin.ext (congrArg (3520 + ·) e1.symm))
  · rw [dif_neg h, dif_neg fun hi => h (e1.symm.trans_lt hi)]

/-- The run of the kernel: the result array holds the result of the argument, and this is unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩)
    (Cert.SsmWeightIdeal.Value.run_blocks (F := Ideal) m ρ)

end Kernel

section Reference

open Cert.SsmWeightRefIdeal Cert.SsmWeightRefIdeal.Gen

/-- The reference's result is the result. -/
theorem ref_eq (w : FVec Ideal S1x2048x6096 .f32) :
    truncf (F := Ideal) .bf16 (pad S2048x2688 ![0, 0] ![0, 112] ![0, 0] (extractStridedSlice S2048x2576 ![0, 3520]
      (shapeCast _ w shapeCasts_S1x2048x6096_S2048x6096) slices_S2048x6096_S2048x2576_0_3520)
      (sitofp .f32 (constantI S_ 32 0#32)) pads_S2048x2576_S2048x2688_000_01120 h_S_) bitsLt_bf16_f32 = result w := by
  funext j
  idx_vars j
  unfold result
  pointwise
  split
  · rfl
  · show (((0#32 : BitVec 32).toInt : ℝ) : EReal) = 0
    simp

/-- What the reference's run leaves in its result, over the contents of its argument, is the result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = result (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Cert.SsmWeightRefIdeal.Value.run (F := Ideal) m ρ)
  exact ref_eq _

end Reference

end Cert.SsmColumns

end
-- ==== Proof.Equal.lean ====
/-
  Each kernel and its reference, from memories agreeing on the arguments, end with the same result.
-/
module

public import proofs.«01_k».proof.Defs
public import proofs.«01_k».proof.Proof.FfnValue
public import proofs.«01_k».proof.Proof.FfnRef
public import proofs.«01_k».proof.Proof.QkvValue
public import proofs.«01_k».proof.Proof.QkvRef
public import proofs.«01_k».proof.Proof.OutValue
public import proofs.«01_k».proof.Proof.OutAbValue
public import proofs.«01_k».proof.Proof.BandValue
public import proofs.«01_k».proof.Proof.BandRef
public import proofs.«01_k».proof.Proof.BandFinite
public import proofs.«01_k».proof.Proof.BiasRef
public import proofs.«01_k».proof.Proof.BiasFinite
public import proofs.«01_k».proof.Proof.SsmWeightValue

@[expose] public section

noncomputable section

namespace Cert.Equal

open Idealize.ShloMosaic Idealize.SL.Sem

/-- The kernel of the feed-forward part and its reference end with the same array. -/
theorem ffn : Cert.algebraic_FfnIdeal_FfnRefIdeal := by
  intro m ρ m' ρ' _ hagree
  refine ⟨_, FeedForward.run m ρ, ?_⟩
  refine (θ_run Cert.FfnRefIdeal.defs _ _).mono (fun _ h c => ⟨(h c).1.trans ?_, (h c).2⟩) (FeedForward.ref_run m' ρ')
  obtain ⟨h0, h1, h2, h3, h4⟩ := hagree c
  rw [h0, h1, h2, h3, h4]

/-- The kernel of the projection to queries, keys and values and its reference end with the same array. -/
theorem qkv : Cert.algebraic_QkvIdeal_QkvRefIdeal := by
  intro m ρ m' ρ' _ hagree
  refine ⟨_, QkvProj.run m ρ, ?_⟩
  refine (θ_run Cert.QkvRefIdeal.defs _ _).mono (fun _ h c => ⟨(h c).1.trans ?_, (h c).2⟩) (QkvProj.ref_run m' ρ')
  obtain ⟨h0, h1, h2⟩ := hagree c
  rw [h0, h1, h2]

/-- The kernel of the output projection and its reference end with the same array. -/
theorem out : Cert.algebraic_OutIdeal_OutRefIdeal := by
  intro m ρ m' ρ' _ hagree
  refine ⟨_, OutProj.run m ρ, ?_⟩
  refine (θ_run Cert.OutRefIdeal.defs _ _).mono (fun _ h c => ⟨(h c).1.trans ?_, (h c).2⟩) (OutProj.ref_run m' ρ')
  obtain ⟨h0, h1, h2, h3⟩ := hagree c
  rw [h0, h1, h2, h3]

/-- The kernel of the projection of the two mixers' outputs and its reference end with the same array. -/
theorem outAb : Cert.algebraic_OutAbIdeal_OutAbRefIdeal := by
  intro m ρ m' ρ' _ hagree
  refine ⟨_, OutAbProj.run m ρ, ?_⟩
  refine (θ_run Cert.OutAbRefIdeal.defs _ _).mono (fun _ h c => ⟨(h c).1.trans ?_, (h c).2⟩) (OutAbProj.ref_run m' ρ')
  obtain ⟨h0, h1, h2, h3, h4⟩ := hagree c
  rw [h0, h1, h2, h3, h4]

/-- The kernel of the banded attention and its reference end with the same array, of finite queries, keys and table. -/
theorem band : Cert.algebraic_BandIdeal_BandRefIdeal_pre_finite := by
  intro m ρ m' ρ' hpre hagree
  refine ⟨_, BandAttn.run m ρ fun c => Pre_finite.finite _ _ (hpre c).1 (hpre c).2, ?_⟩
  refine (θ_run Cert.BandRefIdeal.defs _ _).mono (fun _ h c => ⟨(h c).1.trans ?_, (h c).2⟩) (BandAttn.ref_run m' ρ')
  obtain ⟨h0, h1⟩ := hagree c
  rw [h0, h1]

/-- The kernel of the bias table and its reference end with the same array, of a finite argument. -/
theorem bias : Cert.algebraic_BiasIdeal_BiasRefIdeal_pre_finite_bias := by
  intro m ρ m' ρ' hpre hagree
  refine ⟨_, BiasTable.run m ρ fun c => Pre_finite_bias.finite _ (hpre c), ?_⟩
  refine (θ_run Cert.BiasRefIdeal.defs _ _).mono (fun _ h c => ⟨(h c).1.trans ?_, (h c).2⟩) (BiasTable.ref_run m' ρ')
  rw [hagree c]

/-- The kernel of the state space model's weight and its reference end with the same array. -/
theorem ssmWeight : Cert.algebraic_SsmWeightIdeal_SsmWeightRefIdeal := by
  intro m ρ m' ρ' _ hagree
  refine ⟨_, SsmColumns.run m ρ, ?_⟩
  refine (θ_run Cert.SsmWeightRefIdeal.defs _ _).mono (fun _ h c => ⟨(h c).1.trans ?_, (h c).2⟩) (SsmColumns.ref_run m' ρ')
  rw [hagree c]

end Cert.Equal

end
-- ==== Proof.lean ====
/-
  The certificate: the claims of every call, assembled from the modules that prove them.
-/
module

public import proofs.«01_k».proof.Defs
public import proofs.«01_k».proof.Proof.Frames
public import proofs.«01_k».proof.Proof.Preserves
public import proofs.«01_k».proof.Proof.Equal
public import proofs.«01_k».proof.Proof.Gen.Ffn
public import proofs.«01_k».proof.Proof.Gen.FfnIdeal
public import proofs.«01_k».proof.Proof.Gen.FfnRefIdeal
public import proofs.«01_k».proof.Proof.Gen.Qkv
public import proofs.«01_k».proof.Proof.Gen.QkvIdeal
public import proofs.«01_k».proof.Proof.Gen.QkvRefIdeal
public import proofs.«01_k».proof.Proof.Gen.Out
public import proofs.«01_k».proof.Proof.Gen.OutIdeal
public import proofs.«01_k».proof.Proof.Gen.OutRefIdeal
public import proofs.«01_k».proof.Proof.Gen.OutAb
public import proofs.«01_k».proof.Proof.Gen.OutAbIdeal
public import proofs.«01_k».proof.Proof.Gen.OutAbRefIdeal
public import proofs.«01_k».proof.Proof.Gen.Band
public import proofs.«01_k».proof.Proof.Gen.BandIdeal
public import proofs.«01_k».proof.Proof.Gen.BandRefIdeal
public import proofs.«01_k».proof.Proof.Gen.Bias
public import proofs.«01_k».proof.Proof.Gen.BiasIdeal
public import proofs.«01_k».proof.Proof.Gen.BiasRefIdeal
public import proofs.«01_k».proof.Proof.Gen.SsmWeight
public import proofs.«01_k».proof.Proof.Gen.SsmWeightIdeal
public import proofs.«01_k».proof.Proof.Gen.SsmWeightRefIdeal
public import proofs.«01_k».proof.Proof.Gen.Ssd
public import proofs.«01_k».proof.Proof.Gen.SsdIdeal
public import proofs.«01_k».proof.Proof.Gen.Rwkv
public import proofs.«01_k».proof.Proof.Gen.RwkvIdeal
public import Idealize.ShloMosaic.Adequacy
public import Idealize.ShloMosaic.Init

@[expose] public section

noncomputable section

namespace Cert.Proof

open Idealize.ShloMosaic Idealize.SL.Sem

/-- Every claim: no call faults or leaves a counter or an argument changed, each ideal program is its kernel over the
    extended reals, and each kernel computes what its reference computes, where one is stated. -/
theorem claim : Cert.Claim :=
  ⟨Cert.Ffn.Gen.facts, Cert.FfnIdeal.Gen.facts, Cert.FfnRefIdeal.Gen.facts, Cert.Qkv.Gen.facts,
    Cert.QkvIdeal.Gen.facts, Cert.QkvRefIdeal.Gen.facts, Cert.Out.Gen.facts, Cert.OutIdeal.Gen.facts,
    Cert.OutRefIdeal.Gen.facts, Cert.OutAb.Gen.facts, Cert.OutAbIdeal.Gen.facts, Cert.OutAbRefIdeal.Gen.facts,
    Cert.Band.Gen.facts, Cert.BandIdeal.Gen.facts, Cert.BandRefIdeal.Gen.facts, Cert.Bias.Gen.facts,
    Cert.BiasIdeal.Gen.facts, Cert.BiasRefIdeal.Gen.facts, Cert.SsmWeight.Gen.facts, Cert.SsmWeightIdeal.Gen.facts,
    Cert.SsmWeightRefIdeal.Gen.facts, Cert.Ssd.Gen.facts, Cert.SsdIdeal.Gen.facts, Cert.Rwkv.Gen.facts,
    Cert.RwkvIdeal.Gen.facts, Cert.Pre_finite.facts, Cert.Pre_finite_bias.facts, Frames.ffn_kernel, Frames.ffn_ideal,
    Frames.ffn_reference, Frames.qkv_kernel, Frames.qkv_ideal, Frames.qkv_reference, Frames.out_kernel,
    Frames.out_ideal, Frames.out_reference, Frames.outAb_kernel, Frames.outAb_ideal, Frames.outAb_reference,
    Frames.band_kernel, Frames.band_ideal, Frames.band_ideal_finite, Frames.band_reference,
    Frames.band_reference_finite, Frames.bias_kernel, Frames.bias_ideal, Frames.bias_ideal_finite,
    Frames.bias_reference, Frames.bias_reference_finite, Frames.ssmWeight_kernel, Frames.ssmWeight_ideal,
    Frames.ssmWeight_reference, Frames.ssd_kernel, Frames.ssd_ideal, Frames.rwkv_kernel, Frames.rwkv_ideal,
    Preserves.ffn, Equal.ffn, Preserves.qkv, Equal.qkv, Preserves.out, Equal.out, Preserves.outAb, Equal.outAb,
    Preserves.band, Equal.band, Preserves.bias, Equal.bias, Preserves.ssmWeight, Equal.ssmWeight, Preserves.ssd,
    Preserves.rwkv⟩

end Cert.Proof

end
